-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_keep_in_range [hPre_keep_in_range : Cert.Pre_keep_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_keep_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_keep_in_range [hPre_keep_in_range : Cert.Pre_keep_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keep_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_keep_in_range [hKernelIdeal : Cert.KernelIdeal.Facts] [hPre_keep_in_range : Cert.Pre_keep_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_keep_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_keep_in_range [hReferenceIdeal : Cert.ReferenceIdeal.Facts] [hPre_keep_in_range : Cert.Pre_keep_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keep_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_keep_in_range [hKernelIdeal : Cert.KernelIdeal.Facts] [hReferenceIdeal : Cert.ReferenceIdeal.Facts] [hPre_keep_in_range : Cert.Pre_keep_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_keep_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_keep_in_range : Cert.Pre_keep_in_range.Facts),
    quiescent_Kernel (hKernel := hKernel)
    ∧ quiescent_KernelIdeal (hKernelIdeal := hKernelIdeal)
    ∧ quiescent_KernelIdeal_pre_keep_in_range (hKernelIdeal := hKernelIdeal) (hPre_keep_in_range := hPre_keep_in_range)
    ∧ quiescent_ReferenceIdeal (hReferenceIdeal := hReferenceIdeal)
    ∧ quiescent_ReferenceIdeal_pre_keep_in_range (hReferenceIdeal := hReferenceIdeal) (hPre_keep_in_range := hPre_keep_in_range)
    ∧ preserves_Kernel_KernelIdeal
    ∧ algebraic_KernelIdeal_ReferenceIdeal_pre_keep_in_range (hKernelIdeal := hKernelIdeal) (hReferenceIdeal := hReferenceIdeal) (hPre_keep_in_range := hPre_keep_in_range)
-- ==== Pre_keep_in_range.lean ====
abbrev S16x4096x1024 : Shape := ⟨3, ![16, 4096, 1024]⟩
abbrev S1024 : Shape := ⟨1, ![1024]⟩
abbrev S_ : Shape := ⟨0, ![]⟩

class Facts : Prop where

variable [Facts]

def fn {F : FTy → Type} [FloatOps F] (main_arg0 : FVec F S16x4096x1024 .f32) (main_arg1 : FVec F S1024 .f32) (main_arg2 : IVec S_ 32) : IVec S_ 1 :=
  let main_c : IVec S_ 32 := constantI S_ 32 1024#32
  let main_v0 : IVec S_ 1 := cmpi .sle main_arg2 main_c
  main_v0
-- ==== Kernel.lean ====
abbrev S16x4096x1024 : Shape := ⟨3, ![16, 4096, 1024]⟩
abbrev S1024 : Shape := ⟨1, ![1024]⟩
abbrev S_ : Shape := ⟨0, ![]⟩
abbrev S1 : Shape := ⟨1, ![1]⟩
abbrev S1x1024 : Shape := ⟨2, ![1, 1024]⟩
abbrev S48x1024 : Shape := ⟨2, ![48, 1024]⟩
abbrev S65536x1024 : Shape := ⟨2, ![65536, 1024]⟩
abbrev S1x1024x1024 : Shape := ⟨3, ![1, 1024, 1024]⟩
abbrev S1x1x1024 : Shape := ⟨3, ![1, 1, 1024]⟩

abbrev nBuf : Table → Nat
  | .hbm => 9
  | .local .tc .vmem => 5
  | .local .tc .smem => 1
  | .local .scVector .vmem => 1
  | _ => 0

abbrev bufTy : (tb : Table) → Fin (nBuf tb) → BufTy
  | .hbm, ⟨0, _⟩ => ⟨S16x4096x1024, .f32⟩
  | .hbm, ⟨1, _⟩ => ⟨S1024, .f32⟩
  | .hbm, ⟨2, _⟩ => ⟨S_, .i32⟩
  | .hbm, ⟨3, _⟩ => ⟨S1x1024, .f32⟩
  | .hbm, ⟨4, _⟩ => ⟨S1x1024, .f32⟩
  | .hbm, ⟨5, _⟩ => ⟨S48x1024, .f32⟩
  | .hbm, ⟨6, _⟩ => ⟨S65536x1024, .f32⟩
  | .hbm, ⟨7, _⟩ => ⟨S16x4096x1024, .f32⟩
  | .hbm, ⟨8, _⟩ => ⟨S16x4096x1024, .f32⟩
  | .local .tc .vmem, ⟨0, _⟩ => ⟨S1x1024x1024, .f32⟩
  | .local .tc .vmem, ⟨1, _⟩ => ⟨S1x1024x1024, .f32⟩
  | .local .tc .vmem, ⟨2, _⟩ => ⟨S1x1024, .f32⟩
  | .local .tc .vmem, ⟨3, _⟩ => ⟨S1x1024x1024, .f32⟩
  | .local .tc .vmem, ⟨4, _⟩ => ⟨S1x1024x1024, .f32⟩
  | .local .tc .smem, ⟨0, _⟩ => ⟨S1, .i32⟩
  | .local .scVector .vmem, ⟨0, _⟩ => ⟨S48x1024, .f32⟩
  | _, _ => ⟨S16x4096x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => true
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v0 : Ref sig .tc := ⟨.smem, 0, rfl⟩
abbrev main_v3_scv : Ref sig .scVector := ⟨.hbm, 5, rfl⟩
abbrev main_v4_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v29 : BitVec 32 := Scalar.muli v18 c4096_i32
  let c1024_i32 : BitVec 32 := 1024#32
  let v30 : BitVec 32 := Scalar.addi v29 c1024_i32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1536_i32 : BitVec 32 := 1536#32
  let v31 : BitVec 32 := Scalar.muli v28 c1536_i32
  let v32 : BitVec 32 := Scalar.addi v30 v31
  v32
@[reducible] def k0_t1_loop : Scf.Loop 32 :=
  let c0_i32_12 : BitVec 32 := 0#32
  let c32_i32 : BitVec 32 := 32#32
  let v34 : BitVec 32 := Scalar.addi c0_i32_12 c32_i32
  let c1_i32_13 : BitVec 32 := 1#32
  ⟨c0_i32_12, v34, c1_i32_13⟩
def k0_mult2 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v29 : BitVec 32 := Scalar.muli v18 c4096_i32
  let c1024_i32 : BitVec 32 := 1024#32
  let v30 : BitVec 32 := Scalar.addi v29 c1024_i32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1536_i32 : BitVec 32 := 1536#32
  let v31 : BitVec 32 := Scalar.muli v28 c1536_i32
  let v32 : BitVec 32 := Scalar.addi v30 v31
  let v33 : BitVec 32 := v32
  let c0_i32_12 : BitVec 32 := 0#32
  let c1_i32_13 : BitVec 32 := 1#32
  let arg6 : BitVec 32 := Scf.iv c0_i32_12 c1_i32_13 k0_t1
  let c48_i32 : BitVec 32 := 48#32
  let v41 : BitVec 32 := Scalar.muli arg6 c48_i32
  let v42 : BitVec 32 := Scalar.addi v33 v41
  v42
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v29 : BitVec 32 := Scalar.muli v18 c4096_i32
  let c1024_i32 : BitVec 32 := 1024#32
  let v30 : BitVec 32 := Scalar.addi v29 c1024_i32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1536_i32 : BitVec 32 := 1536#32
  let v31 : BitVec 32 := Scalar.muli v28 c1536_i32
  let v32 : BitVec 32 := Scalar.addi v30 v31
  let v33 : BitVec 32 := v32
  let c0_i32_12 : BitVec 32 := 0#32
  let c1_i32_13 : BitVec 32 := 1#32
  let arg6 : BitVec 32 := Scf.iv c0_i32_12 c1_i32_13 k0_t1
  let c48_i32 : BitVec 32 := 48#32
  let v41 : BitVec 32 := Scalar.muli arg6 c48_i32
  let v42 : BitVec 32 := Scalar.addi v33 v41
  let v43 : BitVec 32 := v42
  let c0_i32_29 : BitVec 32 := 0#32
  ![v43.toNat, 0]
@[reducible] def k0_t2_loop : Scf.Loop 32 :=
  let c0_i32_21 : BitVec 32 := 0#32
  let c32_i32_22 : BitVec 32 := 32#32
  let v38 : BitVec 32 := Scalar.addi c0_i32_21 c32_i32_22
  let c1_i32_23 : BitVec 32 := 1#32
  ⟨c0_i32_21, v38, c1_i32_23⟩
def k0_mult3 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v29 : BitVec 32 := Scalar.muli v18 c4096_i32
  let c1024_i32 : BitVec 32 := 1024#32
  let v30 : BitVec 32 := Scalar.addi v29 c1024_i32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1536_i32 : BitVec 32 := 1536#32
  let v31 : BitVec 32 := Scalar.muli v28 c1536_i32
  let v32 : BitVec 32 := Scalar.addi v30 v31
  let v33 : BitVec 32 := v32
  let c0_i32_21 : BitVec 32 := 0#32
  let c1_i32_23 : BitVec 32 := 1#32
  let arg6 : BitVec 32 := Scf.iv c0_i32_21 c1_i32_23 k0_t2
  let c48_i32 : BitVec 32 := 48#32
  let v41 : BitVec 32 := Scalar.muli arg6 c48_i32
  let v42 : BitVec 32 := Scalar.addi v33 v41
  v42
def k0_off2 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v29 : BitVec 32 := Scalar.muli v18 c4096_i32
  let c1024_i32 : BitVec 32 := 1024#32
  let v30 : BitVec 32 := Scalar.addi v29 c1024_i32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1536_i32 : BitVec 32 := 1536#32
  let v31 : BitVec 32 := Scalar.muli v28 c1536_i32
  let v32 : BitVec 32 := Scalar.addi v30 v31
  let v33 : BitVec 32 := v32
  let c0_i32_21 : BitVec 32 := 0#32
  let c1_i32_23 : BitVec 32 := 1#32
  let arg6 : BitVec 32 := Scf.iv c0_i32_21 c1_i32_23 k0_t2
  let c48_i32 : BitVec 32 := 48#32
  let v41 : BitVec 32 := Scalar.muli arg6 c48_i32
  let v42 : BitVec 32 := Scalar.addi v33 v41
  let v43 : BitVec 32 := v42
  let c0_i32_29 : BitVec 32 := 0#32
  ![v43.toNat, 0]
abbrev grid1 : Pipeline.Grid := ⟨1, ![16], ![false]⟩

abbrev pre1 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096x1024 : Shape := ⟨3, ![16, 4096, 1024]⟩
abbrev S1024 : Shape := ⟨1, ![1024]⟩
abbrev S_ : Shape := ⟨0, ![]⟩
abbrev S4096 : Shape := ⟨1, ![4096]⟩
abbrev S1x4096x1 : Shape := ⟨3, ![1, 4096, 1]⟩
abbrev S1x1x1024 : Shape := ⟨3, ![1, 1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S_, .i32⟩
  | .hbm, ⟨3, _⟩ => ⟨S4096, .i32⟩
  | .hbm, ⟨4, _⟩ => ⟨S4096, .i32⟩
  | .hbm, ⟨5, _⟩ => ⟨S4096, .i1⟩
  | .hbm, ⟨6, _⟩ => ⟨S1x4096x1, .i1⟩
  | .hbm, ⟨7, _⟩ => ⟨S1x1x1024, .f32⟩
  | .hbm, ⟨8, _⟩ => ⟨S16x4096x1024, .i1⟩
  | .hbm, ⟨9, _⟩ => ⟨S16x4096x1024, .f32⟩
  | .hbm, ⟨10, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Proof.KernelIdeal.Setup.lean ====
/-
  The set-up of the kernel's proof: the program as the launch theorem sees it, the resource algebra, the buffers, the
  rows each vector subcore fills, and what the one SparseCore call's handshakes carry.

  Subcore `s` of SparseCore `c` fills rows `4096 s + 1024 + 1536 c + [0, 1536)` of the 65536 × 1024 array, 48 rows at a
  time, 32 times. Every row it writes is the mask token.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Batch
public import Idealize.ShloMosaic.Lib.Ring
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.KernelIdeal

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq : (K (F := F)).nSub 0 = 16 := rfl
theorem nCore_eq : (K (F := F)).nCore 0 = 2 := rfl

/-- The SparseCore call's handshake semaphores and buffers are laid out as the launch needs. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the block pipeline's rounds, the transfers' counters -/

abbrev UH : Type := URounds (GSem nD τ sig) ℕ
abbrev UP : Type := UR sig nD τ × Counters
abbrev UU : Type := UH × UP

local notation "𝕄" => MT nD τ sig (HIx 1) (Elt F) ℕ UU ℕ

/-- Where the handshakes' rounds sit. -/
abbrev EH : Emb UH (MT nD τ sig (HIx 1) (Elt F) ℕ UU ℕ) := embL
/-- Where the block pipeline's rounds sit. -/
abbrev EP : Emb (UR sig nD τ) (MT nD τ sig (HIx 1) (Elt F) ℕ UU ℕ) := (Emb.inl : Emb (UR sig nD τ) UP).trans embR

instance EP_landsIn : (EP (F := F)).LandsIn (upEmb : UEmb _ 𝕄) := by unfold EP; infer_instance

/-! ## The buffers -/

variable (m : (ℓ : Loc nD τ sig) → Buf (Elt F) ℓ) (ρ : Dev nD → PrngReg)

abbrev xLoc (d : Dev nD) : Loc nD τ sig := (SparseCore.T d).loc main_arg0
abbrev tLoc (d : Dev nD) : Loc nD τ sig := (SparseCore.T d).loc main_arg1
abbrev kLoc (d : Dev nD) : Loc nD τ sig := (SparseCore.T d).loc main_arg2
abbrev pLoc (d : Dev nD) : Loc nD τ sig := (SparseCore.T d).loc main_v3
abbrev oLoc (d : Dev nD) : Loc nD τ sig := (SparseCore.T d).loc main_v4

/-- The index `n` of a vector of 1024. -/
abbrev ix1 (n : Fin 1024) : S1024.Idx := fun | 0 => n

/-- The 48-row pattern: every row is the mask token. -/
def pat (d : Dev nD) : Buf (Elt F) (pLoc d) := fun (y : S48x1024.Idx) => m (tLoc d) (ix1 (y 1))
/-- The array with every row the mask token. -/
def fill (d : Dev nD) : Buf (Elt F) (oLoc d) := fun (y : S65536x1024.Idx) => m (tLoc d) (ix1 (y 1))

/-! ## The rows -/

/-- The first row subcore `s` of SparseCore `c` fills. -/
abbrev lo (c s : ℕ) : ℕ := 4096 * s + 1024 + 1536 * c

/-- Rows `[a, b)` of the big array. -/
def rows (a b : ℕ) : Finset S65536x1024.Idx := Finset.univ.filter fun y => a ≤ (y 0).val ∧ (y 0).val < b

/-- A position lies in a range of rows exactly when its row does. -/
theorem mem_rows (a b : ℕ) (y : S65536x1024.Idx) : y ∈ rows a b ↔ a ≤ (y 0).val ∧ (y 0).val < b := by
  simp [rows]

/-- Ranges of rows that do not overlap share no position. -/
theorem rows_disjoint {a b a' b' : ℕ} (h : b ≤ a' ∨ b' ≤ a) : Disjoint (rows a b) (rows a' b') := by
  rw [Finset.disjoint_left]; intro y h₁ h₂
  rw [mem_rows] at h₁ h₂; omega

/-- What subcore `s` of SparseCore `c` fills. -/
abbrev tSet (c s : ℕ) : Finset S65536x1024.Idx := rows (lo c s) (lo c s + 1536)
/-- The part of it that its transfer `t` writes. -/
abbrev chSet (c s t : ℕ) : Finset S65536x1024.Idx := rows (lo c s + 48 * t) (lo c s + 48 * t + 48)
/-- What SparseCore `c` fills. -/
def cSet (c : ℕ) : Finset S65536x1024.Idx := (Finset.univ : Finset (Fin 16)).biUnion fun s => tSet c s.val

/-- The 32 pieces of a subcore's rows are pairwise disjoint. -/
theorem chSets_disjoint (c s : ℕ) : ∀ t ∈ (Finset.univ : Finset (Fin 32)), ∀ t' ∈ (Finset.univ : Finset (Fin 32)), t ≠ t' →
    Disjoint (chSet c s t.val) (chSet c s t'.val) := fun t _ t' _ h => rows_disjoint (by
  have : t.val ≠ t'.val := fun e => h (Fin.ext e)
  omega)

/-- The 32 pieces of a subcore's rows are all of its rows. -/
theorem chSets_cover (c s : ℕ) : ((Finset.univ : Finset (Fin 32)).biUnion fun t => chSet c s t.val) = tSet c s := by
  ext y
  simp only [Finset.mem_biUnion, Finset.mem_univ, true_and, mem_rows]
  constructor
  · rintro ⟨t, h₁, h₂⟩; have := t.isLt; omega
  · rintro ⟨h₁, h₂⟩
    refine ⟨⟨((y 0).val - lo c s) / 48, by omega⟩, ?_, ?_⟩ <;> simp only <;> omega

/-- The subcores of one SparseCore have disjoint rows. -/
theorem tSets_disjoint (c : ℕ) (hc : c < 2) : ∀ s ∈ (Finset.univ : Finset (Fin 16)), ∀ s' ∈ (Finset.univ : Finset (Fin 16)), s ≠ s' →
    Disjoint (tSet c s.val) (tSet c s'.val) := fun s _ s' _ h => rows_disjoint (by
  have : s.val ≠ s'.val := fun e => h (Fin.ext e)
  unfold lo; omega)

theorem mem_cSet (c : ℕ) (y : S65536x1024.Idx) : y ∈ cSet c ↔ ∃ s : Fin 16, lo c s.val ≤ (y 0).val ∧ (y 0).val < lo c s.val + 1536 := by
  simp only [cSet, Finset.mem_biUnion, Finset.mem_univ, true_and, mem_rows]

/-- The two SparseCores have disjoint rows. -/
theorem cSets_disjoint : Disjoint (cSet 0) (cSet 1) := by
  rw [Finset.disjoint_left]; intro y h₁ h₂
  rw [mem_cSet] at h₁ h₂
  obtain ⟨s, h₁⟩ := h₁; obtain ⟨s', h₂⟩ := h₂
  unfold lo at h₁ h₂; omega

/-! ## What the handshakes carry -/

/-- SparseCore `c`'s read share of the pattern. -/
abbrev cShare (c : ℕ) : PosShare TreeShare := Transfers.shareTokN fullShare c
/-- Subcore `s`'s read share of it. -/
abbrev tShare (c s : ℕ) : PosShare TreeShare := Transfers.shareTokN (cShare c) s

/-- The call hands SparseCore `c` a read share of the pattern and the rows it fills; each subcore a part of the share
    and its own rows; the rows come back filled with the mask token. -/
def P : (K (F := F)).Pay (nD := nD) (Val := Elt F) (Name := ℕ) (U := UU) where
  st := fun q d c => match q with | 0 => iprop((pLoc d ↦{cShare c.val} pat m d) ∗ oLoc d ↦[cSet c.val]{fullShare} m (oLoc d))
  dn := fun q d c => match q with | 0 => iprop((pLoc d ↦{cShare c.val} pat m d) ∗ oLoc d ↦[cSet c.val]{fullShare} fill m d)
  go := fun q d c i => match q with
    | 0 => iprop((pLoc d ↦{tShare c.val i.val} pat m d) ∗ oLoc d ↦[tSet c.val i.val]{fullShare} m (oLoc d))
  td := fun q d c i => match q with
    | 0 => iprop((pLoc d ↦{tShare c.val i.val} pat m d) ∗ oLoc d ↦[tSet c.val i.val]{fullShare} fill m d)
  x := fun _ _ => iprop(emp)

instance P_storable : (P (F := F) m).IsStorable where
  st q d c := match q with
    | 0 => (inferInstance : BI.Storable (upEmb : UEmb _ 𝕄) iprop((pLoc d ↦{cShare c.val} pat m d) ∗ oLoc d ↦[cSet c.val]{fullShare} m (oLoc d)))
  dn q d c := match q with
    | 0 => (inferInstance : BI.Storable (upEmb : UEmb _ 𝕄) iprop((pLoc d ↦{cShare c.val} pat m d) ∗ oLoc d ↦[cSet c.val]{fullShare} fill m d))
  go q d c i := match q with
    | 0 => (inferInstance : BI.Storable (upEmb : UEmb _ 𝕄)
      iprop((pLoc d ↦{tShare c.val i.val} pat m d) ∗ oLoc d ↦[tSet c.val i.val]{fullShare} m (oLoc d)))
  td q d c i := match q with
    | 0 => (inferInstance : BI.Storable (upEmb : UEmb _ 𝕄)
      iprop((pLoc d ↦{tShare c.val i.val} pat m d) ∗ oLoc d ↦[tSet c.val i.val]{fullShare} fill m d))

/-! ## Read shares -/

omit [FloatOps F] in
/-- A points-to at a share is what is left of it after `k` read tokens, and the tokens. -/
theorem toks_fin {ℓ : Loc nD τ sig} (I : Finset (Idx ℓ)) (f : Buf (Elt F) ℓ) (q : PosShare TreeShare) (k : ℕ) :
    (ℓ ↦[I]{q} f : sProp 𝕄)
      = iprop((ℓ ↦[I]{Transfers.shareDrop q k} f) ∗ bigSep (Finset.univ : Finset (Fin k)) fun t => ℓ ↦[I]{Transfers.shareTokN q t.val} f) := by
  have h : (ℓ ↦[I]{q} f : sProp 𝕄) ⊣⊢ _ := Transfers.pointsTo_toks_range q k
  rw [BI.Entails.antisymm h.1 h.2, ← Ring.rangeSet_univ (NB := k),
    Ring.bigSep_rangeSet_eq_range (le_refl k) (fun t => (ℓ ↦[I]{Transfers.shareTokN q t} f : sProp 𝕄)) (fun t _ => by simp only [Nat.zero_add])]
  rfl

/-! ## The offsets of the transfers, in closed form -/

/-- The coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_eta (L : grid0.Coords) : L = coordsV (L 0) (L 1) := by
  funext a
  match a with
  | 0 => rfl
  | 1 => rfl
  | ⟨_ + 2, h⟩ => exact absurd h (Nat.not_lt.2 (Nat.le_add_left _ _))

theorem trips1 : k0_t1_loop.trips = 32 := by decide
theorem trips2 : k0_t2_loop.trips = 32 := by decide

set_option maxRecDepth 16384 in
theorem off1_coords : ∀ (c : Fin (grid0.bound 0)) (s : Fin (grid0.bound 1)) (t : Fin k0_t1_loop.trips),
    k0_off1 (coordsV c s) t = ![lo c.val s.val + 48 * t.val, 0] := by decide +kernel

/-- Transfer `t` of subcore `L` writes from row `lo + 48 t` on. -/
theorem off1_eq (L : grid0.Coords) (t : Fin k0_t1_loop.trips) : k0_off1 L t = ![lo (L 0).val (L 1).val + 48 * t.val, 0] := by
  rw [coordsV_eta L]; exact off1_coords _ _ _

end Cert.Proof.KernelIdeal

end
-- ==== Proof.KernelIdeal.Tile.lean ====
/-
  One vector subcore's task: it fetches the 48-row pattern into its scratch, issues 32 transfers of the scratch to
  consecutive 48-row pieces of its rows, all on one semaphore, and then waits for each. Afterwards its rows hold the
  mask token, and the pattern's share, the scratch and the semaphores are as they were.
-/
module

public import proofs.«01_k».proof.Proof.KernelIdeal.Setup

@[expose] public section

noncomputable section

namespace Cert.Proof.KernelIdeal

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

abbrev pV : Memref sig .scVector .hbm S48x1024 .f32 := Memref.whole main_v3_scv
abbrev oV : Memref sig .scVector .hbm S65536x1024 .f32 := Memref.whole main_v4_scv
abbrev bV : Memref sig .scVector .vmem S48x1024 .f32 := Memref.whole cc0_scratch0

section Tile

variable (d : Dev nD) (L : grid0.Coords)

abbrev cV (L : grid0.Coords) : Fin τ.nSC := (L 0).castLE hcore0
abbrev jV (L : grid0.Coords) : Fin τ.nSub := (L 1).castLE hsub0
/-- The subcore's thread. -/
abbrev thr : Thread nD τ := V d (cV L) (jV L)

/-- The semaphore of the fetch, and the one the 32 transfers share. -/
abbrev fetchCell : GSem nD τ sig := (thr d L, .dma cc0_scoped0.sem)
abbrev fillCell : GSem nD τ sig := (thr d L, .dma cc0_scratch1.sem)

/-- The piece transfer `t` writes, as the task names it. -/
def piece (t : Fin k0_t1_loop.trips) : Memref sig .scVector .hbm S48x1024 .f32 :=
  (oV).slice (Rect.unit (s := S65536x1024) (k0_off1 L t) S48x1024.size (k0_off1_inb L t)) (fun _ => rfl)
/-- The piece wait `t` names. -/
def pieceW (t : Fin k0_t2_loop.trips) : Memref sig .scVector .hbm S48x1024 .f32 :=
  (oV).slice (Rect.unit (s := S65536x1024) (k0_off2 L t) S48x1024.size (k0_off2_inb L t)) (fun _ => rfl)

/-- The rows that copy `t` writes are piece `t`. -/
theorem piece_set (t : Fin k0_t1_loop.trips) : (piece L t).view.set = chSet (L 0).val (L 1).val t.val := by
  show ((View.whole (main_v4_scv : Ref sig .scVector)).slice (Rect.unit (s := S65536x1024) (k0_off1 L t) S48x1024.size (k0_off1_inb L t))).set = _
  rw [View.set_slice_whole]
  ext y
  rw [Rect.mem_set_unit, mem_rows, off1_eq]
  have h1 : (y 1).val < 1024 := (y 1).isLt
  constructor
  · intro h; exact h 0
  · intro h a
    match a with
    | 0 => exact h
    | 1 => exact ⟨Nat.zero_le _, by show (y 1).val < 0 + 1024; omega⟩

/-- What one transfer credits. -/
abbrev NN : ℕ := (bV).view.dmaCredit

theorem piece_amount (t : Fin k0_t1_loop.trips) : (piece L t).view.amount (.dma cc0_scratch1.sem) = NN := rfl
theorem pieceW_credit (t : Fin k0_t2_loop.trips) : (pieceW L t).view.dmaCredit = NN := rfl

/-- The scratch holding the pattern. -/
abbrev bPat : Buf (Elt F) ((thr d L).loc cc0_scratch0) := pat m d
/-- The scratch under read token `t`, and under what is left after 32 tokens. -/
abbrev bTok (t : ℕ) : sProp 𝕄 := (bV).view.loc (thr d L) ↦[(bV).view.set]{Transfers.shareTokN fullShare t} bPat m d L
/-- Piece `t` at given contents. -/
abbrev chPts (f : Buf (Elt F) (oLoc d)) (t : ℕ) : sProp 𝕄 := oLoc d ↦[chSet (L 0).val (L 1).val t]{fullShare} f
/-- What transfer `t` delivers: its piece filled, its read token back. -/
abbrev del (t : Fin 32) : sProp 𝕄 := iprop(chPts d L (fill m d) t.val ∗ bTok m d L t.val)
/-- The batch of the 32 transfers: `j` issued, `u` units consumed. -/
abbrev batch (j u : ℕ) : sProp 𝕄 :=
  Transfers.Batch (countersEmb (U := UU)) (thr d L) (.dma cc0_scratch1.sem) (default : HIx 1) NN (del m d L) j u

/-- A transfer of the pattern into piece `t` leaves the fill there. -/
theorem piece_written (t : Fin k0_t1_loop.trips) (f : Buf (Elt F) (oLoc d)) :
    ((piece L t).view.loc (thr d L) ↦[chSet (L 0).val (L 1).val t.val]{fullShare}
        ((piece L t).view.write (Elt F) f ((ReadAs.same (Val := Elt F)).apply ((bV).view.read (Elt F) (bPat m d L))) Finset.univ) : sProp 𝕄)
      = chPts d L (fill m d) t.val := by
  refine pointsTo_congr fun y hy => ?_
  rw [← piece_set, View.set] at hy
  obtain ⟨x, -, rfl⟩ := Finset.mem_map.mp hy
  refine (View.write_emb_of_mem (v := (piece L t).view) _ _ (Finset.mem_univ x)).trans ?_
  have hx : (show S65536x1024.Idx from (piece L t).view.emb x) 1 = x 1 := Fin.ext (by
    show k0_off1 L t 1 + 1 * (x 1).val = (x 1).val
    rw [off1_eq]; show 0 + 1 * (x 1).val = (x 1).val; omega)
  show m (tLoc d) (ix1 (x 1)) = m (tLoc d) (ix1 ((show S65536x1024.Idx from (piece L t).view.emb x) 1))
  rw [hx]

/-! ## The issue loop -/

/-- Before trip `k`: `k` transfers issued, nothing consumed, the later pieces and tokens still held. -/
def issueAt (k : ℕ) (_ : BitVec 32) : sProp 𝕄 :=
  iprop(batch m d L k 0 ∗ bigSep (Ring.rangeSet 32 k 32) (fun t => chPts d L (m (oLoc d)) t.val)
    ∗ bigSep (Ring.rangeSet 32 k 32) fun t => bTok m d L t.val)

/-- One trip of the first loop issues one copy of the batch. -/
theorem issue_step (k : Fin k0_t1_loop.trips) (acc : BitVec 32) :
    issueAt m d L k.val acc ⊢ wp frame (wpE (defs₀ (F := F)) 𝒱₀ (thr d L) none) Set.univ
      (k0_t1_body L pV (Memref.isWhole_whole _) oV (Memref.isWhole_whole _) bV (Memref.isWhole_whole _) cc0_scratch1 cc0_scoped0 k acc)
      (issueAt m d L (k.val + 1)) := by
  have hk : k.val < 32 := lt_of_lt_of_eq k.isLt trips1
  unfold issueAt
  rw [Ring.bigSep_rangeSet_head (Φ := fun t : Fin 32 => chPts d L (m (oLoc d)) t.val) hk hk,
    Ring.bigSep_rangeSet_head (Φ := fun t : Fin 32 => bTok m d L t.val) hk hk]
  iintro ⟨HB, ⟨Hc, Hcs⟩, ⟨Ht, Hts⟩⟩
  unfold k0_t1_body
  rw [Prog.bind_lift]
  iapply (Transfers.wp_dmaBatch countersEmb 𝒱₀ (thr d L) none (src := bV) (dst := piece L k) (fd := m (oLoc d)) (sm := .dma cc0_scratch1.sem) (D := del m d L)
    (default : HIx 1) NN (piece_amount L k) (Finset.Subset.refl _) hk (Nat.zero_le _) ?_) $$ [Ht Hc HB]
  · rw [piece_set]
    exact BI.sep_mono (Entails.of_eq (piece_written m d L k _)) (BI.Entails.refl _)
  · isplitl [Ht]; · iexact Ht
    isplitl [Hc]; · rw [piece_set]; iexact Hc
    iexact HB
  iintro HB
  sl_step
  isplitl [HB]; · iexact HB
  isplitl [Hcs]; · iexact Hcs
  iexact Hts

/-! ## The drain loop -/

/-- Before trip `k`: the waits so far are recorded, and either fewer than 32 pieces have been waited for, or all of
    them have, and then every delivery is there and the semaphore is back at zero. -/
def drainAt (O : CellTallies nD τ sig (HIx 1)) (W : Waits sig (HIx 1)) (k : ℕ) (_ : BitVec 32) : sProp 𝕄 :=
  iprop(Transfers.MayWaits (thr d L) (default : HIx 1) O ∗ (∃ W', ⌜∀ p ∈ W', p ∈ W ∨ p.2 = none⌝ ∗ owes (thr d L) O W')
    ∗ (if k < 32 then batch m d L 32 (k * NN) else iprop(semVal (fillCell d L) 0 ∗ bigSep Finset.univ (del m d L))))

/-- One trip of the second loop waits for one copy of the batch. -/
theorem drain_step (O : CellTallies nD τ sig (HIx 1)) (W : Waits sig (HIx 1)) (k : Fin k0_t2_loop.trips) (acc : BitVec 32) :
    drainAt m d L O W k.val acc ⊢ wp frame (wpE (defs₀ (F := F)) 𝒱₀ (thr d L) none) Set.univ
      (k0_t2_body L pV (Memref.isWhole_whole _) oV (Memref.isWhole_whole _) bV (Memref.isWhole_whole _) cc0_scratch1 cc0_scoped0 k acc)
      (drainAt m d L O W (k.val + 1)) := by
  have hk : k.val < 32 := lt_of_lt_of_eq k.isLt trips2
  have hN : 0 < NN := by decide
  unfold drainAt k0_t2_body
  rw [Prog.bind_lift]
  rw [if_pos hk]
  rcases Nat.lt_or_ge (k.val + 1) 32 with h1 | h1
  · simp only [if_pos h1]
    iintro ⟨#Hmw, ⟨%W', %hW', HO⟩, HB⟩
    iapply (Transfers.wp_waitBatchO countersEmb 𝒱₀ (thr d L) none (default : HIx 1) (pieceW_credit L k)
      (show k.val * NN + NN < NN * 32 by nlinarith)) $$ [HB HO]
    · isplitl [HB]; · iexact HB
      isplitl [HO]; · iexact HO
      iapply (Transfers.MayWaits.elim (SemLoc.dma cc0_scratch1.sem)) $$ Hmw
    iintro ⟨HB, HO⟩
    sl_step
    isplitr; · iexact Hmw
    isplitl [HO]
    · iexists _; isplitr
      swap; · iexact HO
      ipureintro; intro p hp
      rcases Finset.mem_insert.mp hp with hp | hp; · exact .inr (hp ▸ rfl)
      exact hW' p hp
    rw [show (k.val + 1) * NN = k.val * NN + NN from Nat.succ_mul _ _]
    iexact HB
  · simp only [if_neg (Nat.not_lt.mpr h1)]
    iintro ⟨#Hmw, ⟨%W', %hW', HO⟩, HB⟩
    iapply (Transfers.wp_waitBatchLastO countersEmb 𝒱₀ (thr d L) none (default : HIx 1) (pieceW_credit L k) hN
      (show k.val * NN + NN = NN * 32 by rw [show k.val = 31 by omega]; omega)) $$ [HB HO]
    · isplitl [HB]; · iexact HB
      isplitl [HO]; · iexact HO
      iapply (Transfers.MayWaits.elim (SemLoc.dma cc0_scratch1.sem)) $$ Hmw
    iintro ⟨HD, Hsem, HO⟩
    sl_step
    isplitr; · iexact Hmw
    isplitl [HO]
    · iexists _; isplitr
      swap; · iexact HO
      ipureintro; intro p hp
      rcases Finset.mem_insert.mp hp with hp | hp; · exact .inr (hp ▸ rfl)
      exact hW' p hp
    isplitl [Hsem]; · iexact Hsem
    iexact HD

/-! ## The subcore's own semaphores and scratch -/

theorem ownSems0_V :
    (ownSems0 (thr d L) : sProp 𝕄)
      = iprop(semVal (fetchCell d L) 0 ∗ semVal (fillCell d L) 0
          ∗ bigSep (((ownCells (thr d L)).erase (fetchCell d L)).erase (fillCell d L)) fun g => semVal g 0) := by
  unfold SparseCore.Cfg.ownSems0
  rw [SparseCore.bigSep_erase' ((mem_ownCells (g := fetchCell d L)).mpr ⟨rfl, by
      show (SemLoc.dma cc0_scoped0.sem : SemLoc sig).isScoped .scVector = true; decide⟩),
    SparseCore.bigSep_erase' (Finset.mem_erase.mpr ⟨by simp [fetchCell, fillCell]; decide, (mem_ownCells (g := fillCell d L)).mpr ⟨rfl, by
      show (SemLoc.dma cc0_scratch1.sem : SemLoc sig).isScoped .scVector = true; decide⟩⟩)]

theorem ownBufs_V :
    (ownBufs (thr d L) : sProp 𝕄)
      = iprop((∃ f, (thr d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-! ## The task -/

theorem bV_set : (bV).view.set = Finset.univ := View.set_whole _

/-- The scratch whole is what is left after 32 tokens, and the tokens. -/
theorem scratch_toks (f : Buf (Elt F) ((thr d L).loc cc0_scratch0)) :
    ((thr d L).loc cc0_scratch0 ↦{fullShare} f : sProp 𝕄)
      = iprop(((thr d L).loc cc0_scratch0 ↦{Transfers.shareDrop fullShare 32} f)
          ∗ bigSep (Finset.univ : Finset (Fin 32)) fun t => ((bV).view.loc (thr d L) ↦[(bV).view.set]{Transfers.shareTokN fullShare t.val} f)) := by
  rw [bV_set]
  exact toks_fin Finset.univ f fullShare 32

/-- The rows whole are their 32 pieces. -/
theorem rows_pieces (f : Buf (Elt F) (oLoc d)) :
    (oLoc d ↦[tSet (L 0).val (L 1).val]{fullShare} f : sProp 𝕄) = bigSep (Finset.univ : Finset (Fin 32)) fun t => chPts d L f t.val := by
  rw [← pointsTo_biUnion Finset.univ (ℓ := oLoc d) (fun t : Fin 32 => chSet (L 0).val (L 1).val t.val) (chSets_disjoint _ _), chSets_cover]

theorem pts_pV (q : PosShare TreeShare) (f : Buf (Elt F) (pLoc d)) :
    ((pV).view.loc (thr d L) ↦{q} f : sProp 𝕄) = pLoc d ↦{q} f := rfl
theorem pts_bV (f : Buf (Elt F) ((thr d L).loc cc0_scratch0)) :
    ((bV).view.loc (thr d L) ↦{fullShare} f : sProp 𝕄) = (thr d L).loc cc0_scratch0 ↦{fullShare} f := rfl

set_option maxHeartbeats 4000000 in
/-- The task of subcore `L 1` of SparseCore `L 0`. -/
theorem tile_body (hF : (K (F := F)).Facts) (O : CellTallies nD τ sig (HIx 1)) (W : Waits sig (HIx 1)) (hO : ∀ g, O g none = 0) :
    (iprop(levAts (K (F := F)).L (K (F := F)).lev ∗ emp
        ∗ ((pLoc d ↦{tShare (L 0).val (L 1).val} pat m d) ∗ oLoc d ↦[tSet (L 0).val (L 1).val]{fullShare} m (oLoc d))
        ∗ scopedBufs (thr d L) ∗ scopedSems0 (thr d L) ∗ owes (thr d L) O W) : sProp 𝕄)
      ⊢ wp frame (wpE (defs₀ (F := F)) 𝒱₀ (thr d L) none) Set.univ
          (cc0__sc_fill_body L pV (Memref.isWhole_whole _) oV (Memref.isWhole_whole _) bV (Memref.isWhole_whole _) cc0_scratch1 cc0_scoped0)
          fun _ => iprop(((pLoc d ↦{tShare (L 0).val (L 1).val} pat m d) ∗ oLoc d ↦[tSet (L 0).val (L 1).val]{fullShare} fill m d)
            ∗ scopedBufs (thr d L) ∗ scopedSems0 (thr d L)
            ∗ ∃ W', ⌜∀ p ∈ W', p ∈ W ∨ p.2 = none⌝ ∗ owes (thr d L) O W') := by
  simp only [cc0__sc_fill_body_eq_skeleton]; unfold cc0__sc_fill_body_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hp, Ho⟩, ⟨⟨%fs, Hb⟩, Hbufs⟩, ⟨HsemA, HsemB, Hsems⟩, HO⟩
  ihave Hmw := (show levAts (K (F := F)).L (K (F := F)).lev ⊢ Transfers.MayWaits (thr d L) (default : HIx 1) O from
    (K (F := F)).mayWaits_none (thr := thr d L) hO) $$ Hlv
  ihave Hp' := (Entails.of_eq (pts_pV (F := F) d L _ _).symm) $$ Hp
  ihave Hb' := (Entails.of_eq (pts_bV (F := F) d L _).symm) $$ Hb
  sl_exec
  have hpat : View.write (Elt F) (bV).view fs (tile_body.sl.dma0 m d) Finset.univ = bPat m d L :=
    (View.write_whole_univ _ _ _).trans rfl
  rw [hpat]
  ihave Hb1 := (Entails.of_eq ((pts_bV (F := F) d L _).trans (scratch_toks d L _))) $$ Hb'
  icases Hb1 with ⟨Hbrest, Htoks⟩
  ihave Hpieces := (Entails.of_eq (rows_pieces (F := F) d L _)) $$ Ho
  imod (Transfers.batch_alloc' (Lvl := ℕ) (countersEmb (U := UU)) (thr d L) (default : HIx 1) NN (del m d L) (sm := .dma cc0_scratch1.sem) (E := Set.univ)) $$ HsemB with HB
  sl_for (issueAt m d L) $$ [HB Htoks Hpieces]
  · intro k acc; exact issue_step m d L k acc
  · unfold issueAt
    rw [Ring.rangeSet_univ]
    isplitl [HB]; · iexact HB
    isplitl [Hpieces]; · iexact Hpieces
    iexact Htoks
  iintro %acc HI
  ihave HB := (show issueAt m d L k0_t1_loop.trips acc ⊢ batch m d L 32 0 from by
    unfold issueAt; rw [trips1]; iintro ⟨HB, -⟩; iexact HB) $$ HI
  sl_for (drainAt m d L O (insert (SemLoc.dma cc0_scoped0.sem, default) W)) $$ [HB HO]
  · intro k acc; exact drain_step m d L O _ k acc
  · unfold drainAt
    rw [if_pos (by decide), Nat.zero_mul]
    isplitr; · iexact Hmw
    isplitl [HO]
    · iexists _; isplitr
      swap; · iexact HO
      ipureintro; exact fun p hp => .inl hp
    iexact HB
  iintro %acc' HI
  ihave HI' := (show drainAt m d L O (insert (SemLoc.dma cc0_scoped0.sem, default) W) k0_t2_loop.trips acc'
      ⊢ iprop((∃ W', ⌜∀ p ∈ W', p ∈ insert (SemLoc.dma cc0_scoped0.sem, default) W ∨ p.2 = none⌝ ∗ owes (thr d L) O W')
        ∗ semVal (fillCell d L) 0 ∗ bigSep Finset.univ (del m d L)) from by
    unfold drainAt; rw [trips2, if_neg (by decide)]; iintro ⟨-, HO, Hs, HD⟩
    isplitl [HO]; · iexact HO
    isplitl [Hs] <;> iassumption) $$ HI
  icases HI' with ⟨⟨%W', %hW', HO⟩, HsemB, HD⟩
  ihave HD' := (Entails.of_eq (bigSep_sep' (s := (Finset.univ : Finset (Fin 32))) (Φ := fun t => chPts d L (fill m d) t.val) (Ψ := fun t => bTok m d L t.val))) $$ HD
  icases HD' with ⟨Hpieces, Htoks⟩
  ihave Ho := (Entails.of_eq (rows_pieces (F := F) d L _).symm) $$ Hpieces
  ihave Hb := (Entails.of_eq (scratch_toks (F := F) d L (bPat m d L)).symm) $$ [Hbrest Htoks]
  · isplitl [Hbrest] <;> iassumption
  sl_step
  isplitl [Hp' Ho]
  · isplitl [Hp'] <;> iassumption
  isplitl [Hb Hbufs]
  · isplitl [Hb]; · iexists _; iexact Hb
    iexact Hbufs
  isplitl [HsemA HsemB Hsems]
  · isplitl [HsemA]; · iexact HsemA
    isplitl [HsemB]; · iexact HsemB
    iexact Hsems
  iexists _; isplitr
  swap; · iexact HO
  ipureintro; intro p hp
  rcases hW' p hp with hp | hp
  · rcases Finset.mem_insert.mp hp with hp | hp; · exact .inr (hp ▸ rfl)
    exact .inl hp
  exact .inr hp

/-! ## The obligation -/

theorem defs₀_vector (c : Fin τ.nSC) (s : Fin τ.nSub) :
    defs₀ (F := F) (.scVector c s) 0 ()
      = SparseCore.onTile hcore0 hsub0 (fun c s => cc0__sc_fill_body (coordsV c s)
          pV (Memref.isWhole_whole _) oV (Memref.isWhole_whole _) bV (Memref.isWhole_whole _) cc0_scratch1 cc0_scoped0) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every subcore's task meets what the call asks of it. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Tile

/-! ## The call's operands split among the subcores, and their results join -/

theorem bigSep_tasks (Φ : Fin 16 → sProp 𝕄) :
    (bigSep Finset.univ fun i : Fin ((K (F := F)).nSub 0) => Φ (Fin.cast nSub_eq i)) = bigSep Finset.univ Φ :=
  bigSep_congr fun _ _ => congrArg Φ (Fin.ext rfl)

/-- A SparseCore's rows are its 16 subcores' rows. -/
theorem core_rows (d : Dev nD) (c : ℕ) (hc : c < 2) (f : Buf (Elt F) (oLoc d)) :
    (oLoc d ↦[cSet c]{fullShare} f : sProp 𝕄) = bigSep (Finset.univ : Finset (Fin 16)) fun s => oLoc d ↦[tSet c s.val]{fullShare} f :=
  pointsTo_biUnion Finset.univ (ℓ := oLoc d) (fun s : Fin 16 => tSet c s.val) (tSets_disjoint c hc)

/-- A SparseCore's operands split among its subcores, and their results join. -/
theorem vecSplit : (K (F := F)).VecSplit' (P m) 0 := by
  intro d c
  have hc : c.val < 2 := c.isLt
  show iprop((pLoc d ↦{cShare c.val} pat m d) ∗ oLoc d ↦[cSet c.val]{fullShare} m (oLoc d)) ⊢ |={Set.univ}=> (iprop(
      (bigSep Finset.univ fun i : Fin ((K (F := F)).nSub 0) =>
        iprop((pLoc d ↦{tShare c.val (Fin.cast nSub_eq i).val} pat m d) ∗ oLoc d ↦[tSet c.val (Fin.cast nSub_eq i).val]{fullShare} m (oLoc d)))
      ∗ ((bigSep Finset.univ fun i : Fin ((K (F := F)).nSub 0) =>
          iprop((pLoc d ↦{tShare c.val (Fin.cast nSub_eq i).val} pat m d) ∗ oLoc d ↦[tSet c.val (Fin.cast nSub_eq i).val]{fullShare} fill m d))
          -∗ iprop((pLoc d ↦{cShare c.val} pat m d) ∗ oLoc d ↦[cSet c.val]{fullShare} fill m d))) : sProp 𝕄)
  rw [bigSep_tasks (F := F) (fun i => iprop((pLoc d ↦{tShare c.val i.val} pat m d) ∗ oLoc d ↦[tSet c.val i.val]{fullShare} m (oLoc d))),
    bigSep_tasks (F := F) (fun i => iprop((pLoc d ↦{tShare c.val i.val} pat m d) ∗ oLoc d ↦[tSet c.val i.val]{fullShare} fill m d)),
    bigSep_sep', bigSep_sep', core_rows d c.val hc, core_rows d c.val hc, toks_fin Finset.univ (pat m d) (cShare c.val) 16]
  iintro ⟨⟨Hrest, Hp⟩, Ho⟩; imodintro
  isplitl [Hp Ho]
  · isplitl [Hp] <;> iassumption
  iintro ⟨Hp, Ho⟩
  isplitl [Hrest Hp]
  · isplitl [Hrest] <;> iassumption
  iexact Ho

end Cert.Proof.KernelIdeal

end
-- ==== Proof.KernelIdeal.Region.lean ====
/-
  The block kernel on the TensorCore: at grid point `i` it takes block `i` of `x` (the first 1024 positions of batch `i`),
  the mask token and the table's one word, and writes the block with the mask token at every position from the word on.
-/
module

public import proofs.«01_k».proof.Proof.KernelIdeal.Setup
public import Idealize.ShloMosaic.Lib.Pipeline.ValueKit
public import Idealize.ShloMosaic.Lib.VecWindow

@[expose] public section

noncomputable section

namespace Cert.Proof.KernelIdeal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- Memref `M`'s buffer on device `c`: its contents type, and it held whole at `f`. -/
abbrev Bf (c : Dev nD) {sp : Space} {s : Shape} {e : EltTy} (M : Memref sig .tc sp s e) : Type := Buf (Elt F) (M.view.loc (c : Thread nD τ))
abbrev pt (c : Dev nD) {sp : Space} {s : Shape} {e : EltTy} (M : Memref sig .tc sp s e) (f : Bf (F := F) c M) : sProp 𝕄 :=
  M.view.loc (c : Thread nD τ) ↦{fullShare} f

/-- The one index of a buffer of one word. -/
abbrev k0 : S1.Idx := fun | 0 => (0 : Fin 1)

/-! ## The body -/

/-- The table. -/
abbrev kM : Memref sig .tc .smem S1 .i32 := Memref.whole main_v0

/-- What the body leaves in the result's staging buffer, with the proof that the body runs from the table and the three
    staging buffers held whole to its return, handing back all but the result's as they were. -/
noncomputable def bodyRun (c : Dev nD) (i : grid1.Coords) (M0 : Memref sig .tc .vmem S1x1024x1024 .f32) (h0 : M0.IsWhole)
    (M1 : Memref sig .tc .vmem S1x1024 .f32) (h1 : M1.IsWhole) (M2 : Memref sig .tc .vmem S1x1024x1024 .f32) (h2 : M2.IsWhole)
    (fk : Bf (F := F) c kM) (f0 : Bf (F := F) c M0) (f1 : Bf (F := F) c M1) :
    { W : Bf (F := F) c M2 // ∀ (f2 : Bf (F := F) c M2) (E : Set ℕ) (Q : PUnit → sProp 𝕄),
        iprop(pt c kM fk ∗ pt c M0 f0 ∗ pt c M1 f1 ∗ pt c M2 f2
            ∗ (iprop(pt c kM fk ∗ pt c M0 f0 ∗ pt c M1 f1 ∗ pt c M2 W) -∗ Q ⟨⟩))
          ⊢ wp frame (wpE (defs₀ (F := F)) Variants.none c none) E
            (cc1__tc_body i (Memref.whole main_v0) (Memref.isWhole_whole _) M0 h0 M1 h1 (Memref.whole main_v5) (Memref.isWhole_whole _) M2 h2) Q } := by
  refine ⟨?_, fun f2 E Q => ?run⟩
  case run =>
    rw [cc1__tc_body_eq_skeleton]; unfold cc1__tc_body_skel
    iintro ⟨Hk, H0, H1, H2, HQ⟩
    sl_exec!
    sl_step
    iapply HQ
    isplitl [Hk]; · iexact Hk
    isplitl [H0]; · iexact H0
    isplitl [H1]; · iexact H1
    iexact H2

/-- What the body leaves: the block's payload at the table's word, the token's block and the block of `x`. -/
theorem bodyRun_val (c : Dev nD) (i : grid1.Coords) (M0 : Memref sig .tc .vmem S1x1024x1024 .f32) (h0 : M0.IsWhole)
    (M1 : Memref sig .tc .vmem S1x1024 .f32) (h1 : M1.IsWhole) (M2 : Memref sig .tc .vmem S1x1024x1024 .f32) (h2 : M2.IsWhole)
    (fk : Bf (F := F) c kM) (f0 : Bf (F := F) c M0) (f1 : Bf (F := F) c M1) :
    M2.view.read (Elt F) (bodyRun c i M0 h0 M1 h1 M2 h2 fk f0 f1).1
      = k1_pay1 ((show S1.Idx → Elt F .i32 from fk) k0) (M1.view.read (Elt F) f1) (M0.view.read (Elt F) f0) := by
  unfold bodyRun
  dsimp only
  unfold bodyRun.sl.H2_1
  rw [View.read_writes_full, View.readAt_full, View.readAt_full]
  congr 1
  unfold bodyRun.sl.r
  exact congrArg (show S1.Idx → Elt F .i32 from fk) (funext fun | 0 => Subsingleton.elim (α := Fin 1) _ _)

/-! ## The pipeline's proof data, from the contents the region is entered at -/

variable (tk : S1.Idx → Elt F .i32) (vx : (c : Dev nD) → Buf (Elt F) ((c : Thread nD τ).loc main_arg0))
  (vt : (c : Dev nD) → Buf (Elt F) ((c : Thread nD τ).loc main_v1)) (vo : (c : Dev nD) → Buf (Elt F) ((c : Thread nD τ).loc main_v6))

/-- The table's contents, as the pipeline takes them. -/
def tab : pre1.Contents (Elt F) := fun | 0 => tk
theorem ok_tab : ok1 (tab tk) := by unfold ok1; trivial
def adm : (p : Fin 1) → (pcfgs (F := F) p).Adm := fun _ => ⟨tab tk, ok_tab tk⟩

/-- What the body leaves in each window's buffer at point `t`: the inputs' blocks, and the payload of them. -/
def xBlk (c : Dev nD) (t : Fin grid1.N) : S1x1024x1024.Idx → Elt F .f32 :=
  ((win1 (adm tk 0) 0).blk t).view.read (Elt F) (vx c)
def tBlk (c : Dev nD) (t : Fin grid1.N) : S1x1024.Idx → Elt F .f32 :=
  ((win1 (adm tk 0) 1).blk t).view.read (Elt F) (vt c)

/-- The records a wait of the region may leave: none above the handshakes' level of the call before it. -/
abbrev recs (c : Dev nD) : Set (SemLoc sig × HIx 1) := {p | (K (F := F)).lev ((c : Thread nD τ), p.1) p.2 ≤ 8}

def dat (c : Dev nD) : Dat τ (Elt F) (HIx 1) ℕ UU ℕ (cfg1 (adm tk 0)) c where
  A w := match w with
    | ⟨0, _⟩ => vx c
    | ⟨1, _⟩ => vt c
    | ⟨2, _⟩ => vo c
  after w t := match w with
    | ⟨0, _⟩ => xBlk tk vx c t
    | ⟨1, _⟩ => tBlk tk vt c t
    | ⟨2, _⟩ => k1_pay1 (tk k0) (tBlk tk vt c t) (xBlk tk vx c t)
  Φ _ := pt c kM tk
  q _ := fullShare
  owed _ := 0
  recorded _ := recs (F := F) c

def pdats : (p : Fin 1) → (c : Dev nD) → Dat τ (Elt F) (HIx 1) ℕ UU ℕ (Pipeline.pin (pcfgs (F := F)) (adm tk) p) c
  | ⟨0, _⟩ => fun c => dat tk vx vt vo c

theorem before0 (c : Dev nD) (t : Fin (cfg1 (adm tk 0)).N) (d) : (dat tk vx vt vo c).before 0 t d = xBlk tk vx c t :=
  ((dat tk vx vt vo c).before_in_eq_fetched 0 rfl (fun _ => rfl) (fun _ _ _ => rfl) (fun _ => rfl) t d).trans rfl

theorem before1 (c : Dev nD) (t : Fin (cfg1 (adm tk 0)).N) (d) : (dat tk vx vt vo c).before 1 t d = tBlk tk vt c t :=
  ((dat tk vx vt vo c).before_in_eq_fetched 1 rfl (fun _ => rfl) (fun _ _ _ => rfl) (fun _ => rfl) t d).trans rfl

/-- The body at a point: from the windows' buffers as fetched to them as the proof data says it leaves them. -/
theorem body_obligation (c : Dev nD) : BodyObligation (dat tk vx vt vo c) (defs₀ (F := F)) Variants.none none Set.univ := fun t => by
  rw [bigSep_W1, bigSep_W1]
  rw [show (dat tk vx vt vo c).Φ t.castSucc = pt c kM tk from rfl, show (dat tk vx vt vo c).Φ t.succ = pt c kM tk from rfl,
    show (dat tk vx vt vo c).owesAt none t.succ = (dat tk vx vt vo c).owesAt none t.castSucc from rfl]
  let st0 := spec1_0.stage ((cfg1 (adm tk 0)).slots t 0)
  let st1 := spec1_1.stage ((cfg1 (adm tk 0)).slots t 1)
  let st2 := spec1_2.stage ((cfg1 (adm tk 0)).slots t 2)
  have w0 : st0.IsWhole := hstage1_0 _
  have w1 : st1.IsWhole := hstage1_1 _
  have w2 : st2.IsWhole := hstage1_2 _
  show iprop(pt c kM tk ∗ (dat tk vx vt vo c).owesAt none t.castSucc
      ∗ (∃ d, owns (c : Thread nD τ) st0 fullShare ((dat tk vx vt vo c).before 0 t d))
      ∗ (∃ d, owns (c : Thread nD τ) st1 fullShare ((dat tk vx vt vo c).before 1 t d))
      ∗ (∃ d, owns (c : Thread nD τ) st2 fullShare ((dat tk vx vt vo c).before 2 t d)))
    ⊢ wp frame (wpE (defs₀ (F := F)) Variants.none c none) Set.univ
        (cc1__tc_body (grid1.coords t) (Memref.whole main_v0) (Memref.isWhole_whole _) st0 w0 st1 w1 (Memref.whole main_v5) (Memref.isWhole_whole _) st2 w2)
        fun _ => iprop(pt c kM tk ∗ (dat tk vx vt vo c).owesAt none t.castSucc
          ∗ owns (c : Thread nD τ) st0 fullShare (xBlk tk vx c t) ∗ owns (c : Thread nD τ) st1 fullShare (tBlk tk vt c t)
          ∗ owns (c : Thread nD τ) st2 fullShare (k1_pay1 (tk k0) (tBlk tk vt c t) (xBlk tk vx c t)))
  simp only [before0, before1]
  unfold owns
  rw [w0.set_eq_univ, w1.set_eq_univ, w2.set_eq_univ]
  iintro ⟨Hk, Howes, ⟨%d0, %f0, %hf0, H0⟩, ⟨%d1, %f1, %hf1, H1⟩, ⟨%d2, %f2, -, H2⟩⟩
  iapply ((bodyRun c (grid1.coords t) st0 w0 st1 w1 st2 w2 tk f0 f1).2 f2 Set.univ _)
  isplitl [Hk]; · iexact Hk
  isplitl [H0]; · iexact H0
  isplitl [H1]; · iexact H1
  isplitl [H2]; · iexact H2
  iintro ⟨Hk, H0, H1, H2⟩
  isplitl [Hk]; · iexact Hk
  isplitl [Howes]; · iexact Howes
  isplitl [H0]; · iexists _; isplitr; swap; (· iexact H0); ipureintro; exact hf0
  isplitl [H1]; · iexists _; isplitr; swap; (· iexact H1); ipureintro; exact hf1
  iexists _; isplitr; swap; (· iexact H2); ipureintro
  rw [bodyRun_val, hf0, hf1]

/-! ## The region -/

/-- The table held whole is the one prefetched buffer held whole. -/
theorem pref_eq (c : Dev nD) : Pipeline.prefHeld pre1 c (fun _ => fullShare) (tab tk) = (pt c kM tk : sProp 𝕄) := by
  unfold Pipeline.prefHeld
  exact BI.bigSep_singleton

/-- The three windows' arrays, held whole at contents `f`. -/
theorem arrays_eq (c : Dev nD) (f : (w : Fin (cfg1 (adm tk 0)).W) → Buf (Elt F) (((cfg1 (adm tk 0)).win w).arr.view.loc (c : Thread nD τ))) :
    (dat tk vx vt vo c).arrays f = (iprop(((c : Thread nD τ).loc main_arg0 ↦{fullShare} (f 0)) ∗ ((c : Thread nD τ).loc main_v1 ↦{fullShare} (f 1))
      ∗ ((c : Thread nD τ).loc main_v6 ↦{fullShare} (f 2))) : sProp 𝕄) := by
  unfold Dat.arrays
  simp only [(dat tk vx vt vo c).share_full fun _ => rfl, fun w => (arr_whole1 w).set_eq_univ]
  exact bigSep_W1 _

/-- The TensorCore call's arrays at its entry, from the buffers whole. -/
theorem arrays_in (c : Dev nD) : iprop(((c : Thread nD τ).loc main_arg0 ↦{fullShare} vx c) ∗ ((c : Thread nD τ).loc main_v1 ↦{fullShare} vt c)
      ∗ ((c : Thread nD τ).loc main_v6 ↦{fullShare} vo c)) ⊢ (dat tk vx vt vo c).arrays ((dat tk vx vt vo c).arrAt · 0) := by
  rw [arrays_eq]; exact BI.Entails.refl _

/-- The TensorCore call's arrays at its end, back to the buffers whole. -/
theorem arrays_out (c : Dev nD) : (dat tk vx vt vo c).arrays ((dat tk vx vt vo c).arrAt · grid1.N) ⊢
    iprop(((c : Thread nD τ).loc main_arg0 ↦{fullShare} vx c) ∗ ((c : Thread nD τ).loc main_v1 ↦{fullShare} vt c)
      ∗ ((c : Thread nD τ).loc main_v6 ↦{fullShare} (dat tk vx vt vo c).arrAt 2 grid1.N)) := by
  rw [arrays_eq, (dat tk vx vt vo c).arrAt_in 0 rfl, (dat tk vx vt vo c).arrAt_in 1 rfl]; exact BI.Entails.refl _

set_option backward.isDefEq.respectTransparency.types false in
/-- The region: entered from the table, the three arrays and the core owing nothing, with records below the handshakes'
    level; left with the output array at its final contents and the rest as it was. -/
def reg : Pipeline.RegionSeg (pcfgs (F := F)) (adm tk) (pdats tk vx vt vo) none defs₀ Variants.none (K (F := F)).L (K (F := F)).lev 0 where
  win := (launch1 (F := F)).win.to₀
  block_pos := (launch1 (F := F)).block_pos
  stage_whole := (launch1 (F := F)).stage_whole
  K := PEmpty
  osem k := k.elim
  ho := Pipeline.OwnSemFacts.none _
  hbody c := (body_obligation tk vx vt vo c).loose
  hwaits := Pipeline.hwaits_of_owed_zero _ _ _ _ (K (F := F)).L (K (F := F)).lev 0 fun _ _ => rfl
  pre c := iprop(pt c kM tk ∗ ((c : Thread nD τ).loc main_arg0 ↦{fullShare} vx c) ∗ ((c : Thread nD τ).loc main_v1 ↦{fullShare} vt c)
    ∗ ((c : Thread nD τ).loc main_v6 ↦{fullShare} vo c) ∗ ∃ W, ⌜(K (F := F)).WBelow (c : Thread nD τ) W 8⌝ ∗ owes (c : Thread nD τ) (0 : CellTallies nD τ sig (HIx 1)) W)
  post c := iprop(pt c kM tk ∗ ((c : Thread nD τ).loc main_arg0 ↦{fullShare} vx c) ∗ ((c : Thread nD τ).loc main_v1 ↦{fullShare} vt c)
    ∗ ((c : Thread nD τ).loc main_v6 ↦{fullShare} (dat tk vx vt vo c).arrAt 2 grid1.N)
    ∗ ∃ W, ⌜(K (F := F)).WBelow (c : Thread nD τ) W 8⌝ ∗ owes (c : Thread nD τ) (0 : CellTallies nD τ sig (HIx 1)) W)
  X _ := BI.emp
  Y c := pt c kM tk
  Z _ := BI.emp
  hentry c := by
    rw [Pipeline.ownSems0_none, show (pdats tk vx vt vo 0 c) = dat tk vx vt vo c from rfl,
      show Pipeline.prefHeld (pcfgs (F := F) 0).pre c (fun _ => fullShare) (adm tk 0).1 = (pt c kM tk : sProp 𝕄) from pref_eq tk c]
    iintro ⟨⟨Hk, H0, H1, H2, HO⟩, -, -⟩
    imodintro
    isplitl [H0 H1 H2]
    · iapply (arrays_in tk vx vt vo c)
      isplitl [H0]; · iexact H0
      isplitl [H1]; · iexact H1
      iexact H2
    isplitl [Hk]; · iexact Hk
    isplitl [HO]
    · unfold Pipeline.Dat.owesAt Pipeline.owesWithin Pipeline.Dat.bound
      icases HO with ⟨%W, %hW, HO⟩; iexists W; isplitr; · ipureintro; exact fun p hp => Or.inl (hW p hp)
      iexact HO
    isplitr <;> iempintro
  hin c := by
    rw [show (pdats tk vx vt vo 0 c).Φ 0 = pt c kM tk from rfl,
      show Pipeline.prefHeld (pcfgs (F := F) 0).pre c (fun _ => fullShare) (adm tk 0).1 = (pt c kM tk : sProp 𝕄) from pref_eq tk c]
    iintro ⟨-, Hk, -⟩; iexact Hk
  hout c := by
    rw [Pipeline.ownSems0_none, show (pdats tk vx vt vo 0 c).Φ (Fin.last _) = pt c kM tk from rfl,
      show Pipeline.scopedRest (Pipeline.pin (pcfgs (F := F)) (adm tk) 0).spec c = (BI.emp : sProp 𝕄) from scopedRest1_eq c]
    iintro Hk
    isplitl; · iexact Hk
    isplitr <;> iempintro
  hexit c := by
    rw [show (pdats tk vx vt vo 0 c) = dat tk vx vt vo c from rfl]
    iintro ⟨Ha, HO, Hk, -⟩
    ihave Ha := (arrays_out tk vx vt vo c) $$ Ha
    icases Ha with ⟨H0, H1, H2⟩
    imodintro
    isplitl [Hk]; · iexact Hk
    isplitl [H0]; · iexact H0
    isplitl [H1]; · iexact H1
    isplitl [H2]; · iexact H2
    unfold Pipeline.Dat.owesAt Pipeline.owesWithin Pipeline.Dat.bound
    icases HO with ⟨%W, %hW, HO⟩; iexists W; isplitr
    · ipureintro
      intro p hp
      rcases hW hp with h | ⟨w, s, rfl⟩
      · exact h
      · exact Nat.zero_le _
    iexact HO

/-! ## The output array after the region -/

/-- The index `(0, n)` of a row of 1024. -/
abbrev ix2 (n : Fin 1024) : S1x1024.Idx := fun | 0 => (0 : Fin 1) | 1 => n

/-- What the region writes at index `y`: the mask token from position `tk` on, `x` before it. -/
def wr (kw : Elt F .i32) (x : S16x4096x1024.Idx → Elt F .f32) (t1 : S1x1024.Idx → Elt F .f32) : S16x4096x1024.Idx → Elt F .f32 :=
  fun y => if IntOp.cmpi .sge (BitVec.ofNat 32 (y 1).val) kw = 1#1 then t1 (ix2 (y 2)) else x y

/-- The output's block index at point `t` is `(t, 0, 0)`, no side of a block is empty, and every point writes its block back. -/
theorem tr_zero : ∀ t : Fin grid1.N, cc1_transform_3 (grid1.coords t) 0 = t.val := by decide +kernel
theorem tr_one : ∀ t : Fin grid1.N, cc1_transform_3 (grid1.coords t) 1 = 0 := by decide +kernel
theorem tr_two : ∀ t : Fin grid1.N, cc1_transform_3 (grid1.coords t) 2 = 0 := by decide +kernel
theorem block_dim : ∀ a : Fin 3, 0 < S1x1024x1024.size a := by decide
/-- Every grid point's output block is written back. -/
theorem flush_out : ∀ t : Fin grid1.N, Window.flushOf grid1 true cc1_transform_3 t = true := by decide +kernel
theorem nblk0 : (S16x4096x1024.size 0 + S1x1024x1024.size 0 - 1) / S1x1024x1024.size 0 = 16 := by decide
theorem nblk2 : (S16x4096x1024.size 2 + S1x1024x1024.size 2 - 1) / S1x1024x1024.size 2 = 1 := by decide

/-- The blocks the output window writes are those with index 0 along the positions. -/
theorem covers (a : (pcfg1 (F := F)).Adm) : (win1 a 2).CoversWhere (fun β => β (1 : Fin 3) = 0) := by
  refine ⟨fun a => block_dim a, fun t _ => ⟨?_, fun _ => .inl rfl⟩, fun β hβ => ?_⟩
  · exact tr_one t
  · have hb : (β (0 : Fin 3)).val < 16 := Nat.lt_of_lt_of_eq (β (0 : Fin 3)).isLt nblk0
    have h2 : (β (2 : Fin 3)).val < 1 := Nat.lt_of_lt_of_eq (β (2 : Fin 3)).isLt nblk2
    refine ⟨⟨(β (0 : Fin 3)).val, N_1 ▸ hb⟩, fun k => ?_, flush_out _⟩
    match k with
    | ⟨0, _⟩ => exact tr_zero _
    | ⟨1, _⟩ => exact (tr_one ⟨(β (0 : Fin 3)).val, N_1 ▸ hb⟩).trans hβ.symm
    | ⟨2, _⟩ => exact (tr_two ⟨(β (0 : Fin 3)).val, N_1 ▸ hb⟩).trans (by show 0 = (β (2 : Fin 3)).val; omega)

/-- The payload at an index. -/
theorem pay_apply (kw : Elt F .i32) (t1 : Vec F S1x1024 .f32) (x : Vec F S1x1024x1024 .f32) (y : S1x1024x1024.Idx) :
    k1_pay1 kw t1 x y = if IntOp.cmpi .sge (BitVec.ofNat 32 (y 1).val) kw = 1#1 then t1 (ix2 (y 2)) else x y := by
  unfold k1_pay1
  simp only [select, cmpi, broadcast, shapeCast_self]
  rw [iota_single_apply]
  have hb : broadcastTo S1x1024x1024 (shapeCast S1x1x1024 t1 shapeCasts_S1x1024_S1x1x1024) broadcasts_S1x1x1024_S1x1024x1024 y = t1 (ix2 (y 2)) := by
    rw [broadcastTo_apply _ _ y (fun | 0 => (0 : Fin 1) | 1 => (0 : Fin 1) | 2 => y 2 : S1x1x1024.Idx) (fun a => by
      match a with
      | ⟨0, _⟩ => rfl
      | ⟨1, _⟩ => rfl
      | ⟨2, _⟩ => rfl)]
    refine (shapeCast_addUnit_apply ![1, 1024] t1 _ _).trans (congrArg t1 (funext fun a => ?_))
    match a with
    | ⟨0, _⟩ => rfl
    | ⟨1, _⟩ => rfl
  rw [hb]; rfl

/-- Where block `t` of the output, of `x` and of the token sit in their arrays. -/
def at2 (t : Fin grid1.N) (y : S1x1024x1024.Idx) : S16x4096x1024.Idx :=
  fun | 0 => ⟨t.val, Nat.lt_of_lt_of_eq t.isLt N_1⟩ | 1 => ⟨(y 1).val, by have : (y 1).val < 1024 := (y 1).isLt; show (y 1).val < 4096; omega⟩ | 2 => y 2

theorem emb2 (a : (pcfg1 (F := F)).Adm) (t : Fin grid1.N) (y : S1x1024x1024.Idx) : ((win1 a 2).blk t).view.emb y = at2 t y := by
  have h0 : (y 0).val < 1 := (y 0).isLt
  refine funext fun (j : Fin 3) => Fin.ext ?_
  have e : ((show S16x4096x1024.Idx from ((win1 a 2).blk t).view.emb y) j).val = cc1_transform_3 (grid1.coords t) j * S1x1024x1024.size j + (y j).val := by
    blk_simp; rfl
  refine e.trans ?_
  match j with
  | ⟨0, _⟩ =>
    show cc1_transform_3 (grid1.coords t) 0 * 1 + (y 0).val = t.val
    rw [tr_zero]; omega
  | ⟨1, _⟩ =>
    show cc1_transform_3 (grid1.coords t) 1 * 1024 + (y 1).val = (y 1).val
    rw [tr_one]; omega
  | ⟨2, _⟩ =>
    show cc1_transform_3 (grid1.coords t) 2 * 1024 + (y 2).val = (y 2).val
    rw [tr_two]; omega

theorem emb0 (a : (pcfg1 (F := F)).Adm) (t : Fin grid1.N) (y : S1x1024x1024.Idx) : ((win1 a 0).blk t).view.emb y = at2 t y :=
  (show ((win1 a 0).blk t).view.emb y = ((win1 a 2).blk t).view.emb y from rfl).trans (emb2 a t y)

theorem emb1 (a : (pcfg1 (F := F)).Adm) (t : Fin grid1.N) (n : Fin 1024) : ((win1 a 1).blk t).view.emb (ix2 n) = ix2 n := by
  refine funext fun (j : Fin 2) => Fin.ext ?_
  have e : ((show S1x1024.Idx from ((win1 a 1).blk t).view.emb (ix2 n)) j).val = cc1_transform_1 (grid1.coords t) j * S1x1024.size j + (ix2 n j).val := by
    blk_simp; rfl
  refine e.trans ?_
  have z : cc1_transform_1 (grid1.coords t) j = 0 := by
    unfold cc1_transform_1
    match j with
    | ⟨0, _⟩ => rfl
    | ⟨1, _⟩ => rfl
  rw [z]; omega

/-- The output array after the region: written at the first 1024 positions of every batch, as it was elsewhere. -/
theorem final_o (c : Dev nD) : (dat tk vx vt vo c).arrAt 2 grid1.N
    = fun i : S16x4096x1024.Idx => if (i 1).val / 1024 = 0 then wr (tk k0) (vx c) (vt c) i else vo c i := by
  refine (dat tk vx vt vo c).arrAt_eq_of_coversWhere 2 (wr (tk k0) (vx c) (vt c)) (fun β => β (1 : Fin 3) = 0) (covers (adm tk 0))
    (fun t hf y => ?_) (fun j => Iff.rfl)
  blk_simp
  refine (pay_apply (tk k0) (tBlk tk vt c t) (xBlk tk vx c t) y).trans ?_
  have h1 : tBlk tk vt c t (ix2 ((show S1x1024x1024.Idx from y) 2)) = vt c (ix2 ((show S1x1024x1024.Idx from y) 2)) :=
    congrArg (vt c) (emb1 (adm tk 0) t _)
  have h0 : xBlk tk vx c t y = vx c (at2 t y) := congrArg (vx c) (emb0 (adm tk 0) t y)
  rw [h1, h0]
  exact (congrArg (wr (tk k0) (vx c) (vt c)) (emb2 (adm tk 0) t y)).symm

end Cert.Proof.KernelIdeal

end
-- ==== Proof.KernelIdeal.Main.lean ====
/-
  The host program on the TensorCore: the host operations before the SparseCore call, the call, the reshape and the copy
  after it, the block kernel's region; and the whole program's run, with what it leaves in the result.
-/
module

public import proofs.«01_k».proof.Proof.KernelIdeal.Tile
public import proofs.«01_k».proof.Proof.KernelIdeal.Region

@[expose] public section

noncomputable section

namespace Cert.Proof.KernelIdeal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## A host operation of one operand -/

/-- The program's body table. -/
abbrev DD : Defs nD τ sig (Elt F) (SparseCore.Sig (ΛP (F := F)) 1) := (K (F := F)).defs (D (F := F))

omit [FloatOps F] in
/-- Holding the set of two distinct buffers is holding each of the two. -/
theorem two_bufs (d : Dev nD) {x y : Ref sig .tc} (hxy : x ≠ y) (V : Valuation τ sig (Elt F)) :
    (bigSep ({Proc.devRef .tc x, Proc.devRef .tc y} : Finset (DevRef τ sig)) fun b => ((d, b) : Loc nD τ sig) ↦{fullShare} V b : sProp 𝕄)
      = iprop(((d : Thread nD τ).loc x ↦{fullShare} V (Proc.devRef .tc x)) ∗ ((d : Thread nD τ).loc y ↦{fullShare} V (Proc.devRef .tc y))) := by
  rw [SparseCore.bigSep_insert' (by rw [Finset.mem_singleton]; exact StableHlo.devRef_ne_of_ne hxy), bigSep_singleton]

include m in
/-- A host operation that reads `x` and writes `y`, from the two buffers to them with `y` at the operation's value. -/
theorem wp_op2 (d : Dev nD) {x y : Ref sig .tc} (hxy : x ≠ y) (op : HloOp τ sig (Elt F))
    (hb : op.bufs = {Proc.devRef .tc x, Proc.devRef .tc y}) (hw : op.writes = {Proc.devRef .tc y}) (hf : op.fresh = ∅)
    (r : x.ty.Contents (Elt F) → y.ty.Contents (Elt F)) (hr : ∀ V, op.result V (Proc.devRef .tc y) = r (V (Proc.devRef .tc x)))
    (fx : x.ty.Contents (Elt F)) (fy : y.ty.Contents (Elt F)) (Q : PUnit → sProp 𝕄) :
    iprop(boundary (d : Thread nD τ) ∗ ((d : Thread nD τ).loc x ↦{fullShare} fx) ∗ ((d : Thread nD τ).loc y ↦{fullShare} fy)
        ∗ (iprop(boundary (d : Thread nD τ) ∗ ((d : Thread nD τ).loc x ↦{fullShare} fx) ∗ ((d : Thread nD τ).loc y ↦{fullShare} r fx)) -∗ Q ⟨⟩))
      ⊢ wp frame (wpE (DD (F := F)) 𝒱 (d : Thread nD τ) none) Set.univ (hlo rfl op (fun _ => .ret ⟨⟩)) Q := by
  have hne : Proc.devRef (τ := τ) .tc x ≠ Proc.devRef .tc y := StableHlo.devRef_ne_of_ne hxy
  let V : Valuation τ sig (Elt F) := Function.update (Function.update (fun b => m (d, b)) (Proc.devRef .tc x) fx) (Proc.devRef .tc y) fy
  have hVx : V (Proc.devRef .tc x) = fx := by
    show Function.update _ _ _ _ = _
    rw [Function.update_of_ne hne, Function.update_self]
  have hVy : V (Proc.devRef .tc y) = fy := by
    show Function.update _ _ _ _ = _
    rw [Function.update_self]
  have hRx : op.result V (Proc.devRef .tc x) = fx := by
    rw [HloOp.result_of_not_mem _ _ (by rw [hw, Finset.mem_singleton]; exact hne), hVx]
  have hin := two_bufs (F := F) d hxy V
  have hout := two_bufs (F := F) d hxy (op.result V)
  rw [hVx, hVy] at hin
  rw [hRx, hr, hVx] at hout
  have h : _ ⊢ iprop(_ -∗ wp frame (wpE (DD (F := F)) 𝒱 (d : Thread nD τ) none) Set.univ (hlo rfl op (fun _ => .ret ⟨⟩)) Q) := wp_hlo (defs := DD (F := F)) 𝒱 (d : Thread nD τ) none Set.univ (hp := rfl) (op := op) (k := fun _ => .ret ⟨⟩) (q := fun _ => fullShare) (F := V) (Q := Q)
    (fun _ _ => rfl) hf
  rw [hb, hin, hout] at h
  iintro ⟨Hb, Hx, Hy, HQ⟩
  iapply h $$ [Hb Hx Hy]
  · isplitl [Hb]; · iexact Hb
    isplitl [Hx] <;> iassumption
  iintro H
  rw [wp_ret]
  imodintro
  iapply HQ
  iexact H

/-! ## What the arrays hold along the way -/

/-- The table's one word: the number of positions kept. -/
def tkOf : S1.Idx → Elt F .i32 := broadcastInDim S1 ![] bcast_S_S1 (m (kLoc 0) : S_.Idx → Elt F .i32)
/-- The mask token as a row. -/
def tokRow (d : Dev nD) : Buf (Elt F) ((d : Thread nD τ).loc main_v1) :=
  shapeCast S1x1024 (m (tLoc d) : S1024.Idx → Elt F .f32) shapeCasts_S1024_S1x1024
/-- The big array after the SparseCore call: the mask token in the rows the subcores fill, as launched elsewhere. -/
def filled (d : Dev nD) : Buf (Elt F) (oLoc d) := (cSet 0 ∪ cSet 1).piecewise (fill m d) (m (oLoc d))
/-- The same as batches of positions. -/
def filled3 (d : Dev nD) : Buf (Elt F) ((d : Thread nD τ).loc main_v5) :=
  shapeCast S16x4096x1024 (filled m d : S65536x1024.Idx → Elt F .f32) shapeCasts_S65536x1024_S16x4096x1024

/-- The pattern tile, as the host's operations compute it. -/
theorem pat_eq (d : Dev nD) : (pat m d : S48x1024.Idx → Elt F .f32)
    = broadcastInDim S48x1024 ![0, 1] bcast_S1x1024_S48x1024_0_1 (broadcastInDim S1x1024 ![1] bcast_S1024_S1x1024_1 (m (tLoc d) : S1024.Idx → Elt F .f32)) := by
  funext y
  simp only [broadcastInDim]
  refine congrArg (m (tLoc d) : S1024.Idx → Elt F .f32) (funext fun a => ?_)
  match a with
  | ⟨0, _⟩ => rfl

/-- What the whole program leaves in its result: the first 1024 positions of each batch as the block kernel writes them,
    the others as the subcores filled them. -/
def res (d : Dev nD) : Buf (Elt F) ((d : Thread nD τ).loc main_v6) := fun i : S16x4096x1024.Idx =>
  if (i 1).val / 1024 = 0 then wr (tkOf m k0) (m (xLoc d)) (tokRow m d) i else filled3 m d i

/-! ## The call's operands and results -/

omit [FloatOps F] in
/-- The array that the SparseCore call writes is the two SparseCores' rows and the remaining rows. -/
theorem o_split (d : Dev nD) (f : Buf (Elt F) (oLoc d)) :
    (oLoc d ↦{fullShare} f : sProp 𝕄) = iprop((oLoc d ↦[cSet 0]{fullShare} f) ∗ (oLoc d ↦[cSet 1]{fullShare} f)
      ∗ oLoc d ↦[Finset.univ \ (cSet 0 ∪ cSet 1)]{fullShare} f) := by
  have h₁ : (oLoc d ↦{fullShare} f : sProp 𝕄) ⊣⊢ _ := pointsTo_split_subset (I := cSet 0 ∪ cSet 1) (Finset.subset_univ _)
  have h₂ : (oLoc d ↦[cSet 0 ∪ cSet 1]{fullShare} f : sProp 𝕄) ⊣⊢ _ := pointsTo_union cSets_disjoint
  rw [BI.Entails.antisymm h₁.1 h₁.2, BI.Entails.antisymm h₂.1 h₂.2]
  have h₃ : ((iprop(((oLoc d ↦[cSet 0]{fullShare} f) ∗ (oLoc d ↦[cSet 1]{fullShare} f)) ∗ oLoc d ↦[Finset.univ \ (cSet 0 ∪ cSet 1)]{fullShare} f)) : sProp 𝕄)
    ⊣⊢ iprop((oLoc d ↦[cSet 0]{fullShare} f) ∗ (oLoc d ↦[cSet 1]{fullShare} f) ∗ oLoc d ↦[Finset.univ \ (cSet 0 ∪ cSet 1)]{fullShare} f) := sep_assoc
  exact BI.Entails.antisymm h₃.1 h₃.2

omit [FloatOps F] in
theorem bigSep_two (Φ : Fin 2 → sProp 𝕄) : (bigSep (Finset.univ : Finset (Fin 2)) Φ) = iprop(Φ 0 ∗ Φ 1) := by
  rw [show (Finset.univ : Finset (Fin 2)) = {0, 1} by decide, SparseCore.bigSep_insert' (by decide), bigSep_singleton]

theorem st0_eq (d : Dev nD) : (bigSep Finset.univ fun c : Fin ((K (F := F)).nCore 0) => (P m).st 0 d c)
    = iprop(((pLoc d ↦{cShare 0} pat m d) ∗ oLoc d ↦[cSet 0]{fullShare} m (oLoc d)) ∗ ((pLoc d ↦{cShare 1} pat m d) ∗ oLoc d ↦[cSet 1]{fullShare} m (oLoc d))) :=
  bigSep_two (F := F) _
theorem dn0_eq (d : Dev nD) : (bigSep Finset.univ fun c : Fin ((K (F := F)).nCore 0) => (P m).dn 0 d c)
    = iprop(((pLoc d ↦{cShare 0} pat m d) ∗ oLoc d ↦[cSet 0]{fullShare} fill m d) ∗ ((pLoc d ↦{cShare 1} pat m d) ∗ oLoc d ↦[cSet 1]{fullShare} fill m d)) :=
  bigSep_two (F := F) _

/-- The rows the two SparseCores filled and the rows they left, as one array. -/
theorem o_join (d : Dev nD) :
    (iprop((oLoc d ↦[cSet 0]{fullShare} fill m d) ∗ (oLoc d ↦[cSet 1]{fullShare} fill m d)
      ∗ oLoc d ↦[Finset.univ \ (cSet 0 ∪ cSet 1)]{fullShare} m (oLoc d)) : sProp 𝕄) ⊢ oLoc d ↦{fullShare} filled m d := by
  rw [o_split,
    show (oLoc d ↦[cSet 0]{fullShare} filled m d : sProp 𝕄) = oLoc d ↦[cSet 0]{fullShare} fill m d from
      pointsTo_congr fun i hi => Finset.piecewise_eq_of_mem _ _ _ (Finset.mem_union_left _ hi),
    show (oLoc d ↦[cSet 1]{fullShare} filled m d : sProp 𝕄) = oLoc d ↦[cSet 1]{fullShare} fill m d from
      pointsTo_congr fun i hi => Finset.piecewise_eq_of_mem _ _ _ (Finset.mem_union_right _ hi),
    show (oLoc d ↦[Finset.univ \ (cSet 0 ∪ cSet 1)]{fullShare} filled m d : sProp 𝕄) = oLoc d ↦[Finset.univ \ (cSet 0 ∪ cSet 1)]{fullShare} m (oLoc d) from
      pointsTo_congr fun i hi => Finset.piecewise_eq_of_notMem _ _ _ (Finset.mem_sdiff.1 hi).2]

/-! ## `@main` on the TensorCore -/

/-- What the region needs of the block pipeline's rounds on device `d`. -/
abbrev G (d : Dev nD) : sProp 𝕄 :=
  iprop(Pipeline.cellsGhost (Pipeline.pin pcfgs (adm (tkOf m))) EP 0 d ∗ Pipeline.toksInit (Pipeline.pin pcfgs (adm (tkOf m))) EP 0 d)

/-- What the claims read of a final state: the arguments as launched, the result. -/
abbrev FIN (d : Dev nD) : sProp 𝕄 :=
  iprop((xLoc d ↦{fullShare} m (xLoc d)) ∗ (tLoc d ↦{fullShare} m (tLoc d)) ∗ (kLoc d ↦{fullShare} m (kLoc d)) ∗ ((d : Thread nD τ).loc main_v6 ↦{fullShare} res m d))

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (kLoc d ↦{fullShare} W main_arg2)
      ∗ ((d : Thread nD τ).loc main_v0 ↦{fullShare} W main_v0) ∗ ((d : Thread nD τ).loc main_v1 ↦{fullShare} W main_v1) ∗ ((d : Thread nD τ).loc main_v2 ↦{fullShare} W main_v2)
      ∗ (pLoc d ↦{fullShare} W main_v3) ∗ (oLoc d ↦{fullShare} W main_v4) ∗ ((d : Thread nD τ).loc main_v5 ↦{fullShare} W main_v5)
      ∗ ((d : Thread nD τ).loc main_v6 ↦{fullShare} W main_v6)) := by
  unfold unscopedBufs
  rw [show (Finset.univ.filter fun b : Ref sig .tc => ¬ b.isScoped)
      = {main_arg0, main_arg1, main_arg2, main_v0, main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

omit [FloatOps F] in
/-- A call of a label of the certificate's own table, made from the program with its SparseCore calls: proved as the
    call in the certificate's own table. -/
theorem wp_inner_call {Λ : Labels} (K : SparseCore.Cfg τ sig Λ 1) (D : Defs nD τ sig (Elt F) Λ) (thr : Thread nD τ) (ℓ : Λ.Label)
    (a : Λ.Args ℓ) (Q : Λ.Result ℓ → sProp 𝕄) :
    (wp frame (wpE D 𝒱 thr none) Set.univ (.op (.customCall ℓ a) .ret) Q : sProp 𝕄)
      ⊢ wp frame (wpE (K.defs D) 𝒱 thr none) Set.univ (Prog.lift (.customCall (SparseCore.inner ℓ) a)) Q :=
  (K.wp_liftProg D 𝒱 thr Set.univ none (.op (.customCall ℓ a) .ret) Q)

/-- A region of the block kernel, inside the program with its SparseCore call. -/
theorem wp_region_of [∀ e, Nonempty (Elt F e)] (a : (p : Fin 1) → (pcfgs (F := F) p).Adm)
    (pd : (p : Fin 1) → (c : Dev nD) → Pipeline.Dat τ (Elt F) (HIx 1) ℕ UU ℕ (Pipeline.pin (pcfgs (F := F)) a p) c)
    (R : Pipeline.RegionSeg (pcfgs (F := F)) a pd none defs₀ Variants.none (K (F := F)).L (K (F := F)).lev 0) (d : Dev nD) (Q : PUnit → sProp 𝕄) :
    iprop((iprop(boundary (d : Thread nD τ) ∗ R.post d) -∗ Q ⟨⟩)
        ∗ boundary (d : Thread nD τ) ∗ R.pre d ∗ levAts (K (F := F)).L (K (F := F)).lev
        ∗ Pipeline.cellsGhost (Pipeline.pin pcfgs a) EP 0 d ∗ Pipeline.toksInit (Pipeline.pin pcfgs a) EP 0 d)
      ⊢ wp frame (wpE (DD (F := F)) 𝒱 (d : Thread nD τ) none) Set.univ (Prog.lift (.customCall (SparseCore.inner (Pipeline.entry 0)) ())) Q := by
  have h := Pipeline.RegionSeg.wp (pcfgs (F := F)) a pd none (cellOf_inj a) EP defs₀ 𝒱₀ (K (F := F)).L (K (F := F)).lev R d none (fun _ h => nomatch h)
    .ret Q
  iintro ⟨HQ, Hb, Hpre, HL, Hc, Ht⟩
  iapply (wp_inner_call (K (F := F)) (D (F := F)) (d : Thread nD τ) (Pipeline.entry 0) () Q)
  iapply h
  isplitl [HQ]
  · iintro H
    rw [wp_ret]
    imodintro
    iapply HQ
    iexact H
  isplitl [Hb]; · iexact Hb
  isplitl [Hpre]; · iexact Hpre
  isplitl [HL]; · iexact HL
  isplitl [Hc] <;> iassumption

/-- The block kernel's region, from the table, `x`, the token row and the result array to the same with the result array
    as the whole program leaves it. -/
theorem wp_region [∀ e, Nonempty (Elt F e)] (d : Dev nD) (Q : PUnit → sProp 𝕄) :
    iprop((iprop(boundary (d : Thread nD τ) ∗ pt d kM (tkOf m) ∗ (xLoc d ↦{fullShare} m (xLoc d)) ∗ ((d : Thread nD τ).loc main_v1 ↦{fullShare} tokRow m d)
            ∗ ((d : Thread nD τ).loc main_v6 ↦{fullShare} res m d)
            ∗ ∃ W, ⌜(K (F := F)).WBelow (d : Thread nD τ) W 8⌝ ∗ owes (d : Thread nD τ) (0 : CellTallies nD τ sig (HIx 1)) W) -∗ Q ⟨⟩)
        ∗ boundary (d : Thread nD τ)
        ∗ iprop(pt d kM (tkOf m) ∗ (xLoc d ↦{fullShare} m (xLoc d)) ∗ ((d : Thread nD τ).loc main_v1 ↦{fullShare} tokRow m d)
            ∗ ((d : Thread nD τ).loc main_v6 ↦{fullShare} (filled3 m d : S16x4096x1024.Idx → Elt F .f32))
            ∗ ∃ W, ⌜(K (F := F)).WBelow (d : Thread nD τ) W 8⌝ ∗ owes (d : Thread nD τ) (0 : CellTallies nD τ sig (HIx 1)) W)
        ∗ levAts (K (F := F)).L (K (F := F)).lev ∗ G m d)
      ⊢ wp frame (wpE (DD (F := F)) 𝒱 (d : Thread nD τ) none) Set.univ (Prog.lift (.customCall (SparseCore.inner (Pipeline.entry 0)) ())) Q := by
  rw [show res m d = (dat (tkOf m) (fun c => m (xLoc c)) (tokRow m) (filled3 m) d).arrAt 2 grid1.N from
        (final_o (tkOf m) (fun c => m (xLoc c)) (tokRow m) (filled3 m) d).symm]
  exact wp_region_of (adm (tkOf m)) _ (reg (tkOf m) (fun c => m (xLoc c)) (tokRow m) (filled3 m)) d Q

include m in
/-- A host operation of one operand, at the value it computes. -/
theorem op_unary (d : Dev nD) {x y : Ref sig .tc} (hxy : x ≠ y) (f : x.ty.Contents (Elt F) → y.ty.Contents (Elt F)) (hx hy)
    (fx : x.ty.Contents (Elt F)) (fy : y.ty.Contents (Elt F)) (Q : PUnit → sProp 𝕄) :
    iprop(boundary (d : Thread nD τ) ∗ ((d : Thread nD τ).loc x ↦{fullShare} fx) ∗ ((d : Thread nD τ).loc y ↦{fullShare} fy)
        ∗ (iprop(boundary (d : Thread nD τ) ∗ ((d : Thread nD τ).loc x ↦{fullShare} fx) ∗ ((d : Thread nD τ).loc y ↦{fullShare} f fx)) -∗ Q ⟨⟩))
      ⊢ wp frame (wpE (DD (F := F)) 𝒱 (d : Thread nD τ) none) Set.univ (hlo rfl (StableHlo.unary x y f hx hy) (fun _ => .ret ⟨⟩)) Q :=
  wp_op2 m d hxy _ rfl rfl rfl f (fun V => StableHlo.unary_result' ..) fx fy Q

include m in
/-- A host reshape, at the operand's elements in row-major order. -/
theorem op_reshape (d : Dev nD) {x y : Ref sig .tc} (hxy : x ≠ y) (he : x.ty.elt = y.ty.elt) (hn : x.ty.shape.ShapeCasts y.ty.shape) (hx hy)
    (fx : x.ty.Contents (Elt F)) (fy : y.ty.Contents (Elt F)) (Q : PUnit → sProp 𝕄) :
    iprop(boundary (d : Thread nD τ) ∗ ((d : Thread nD τ).loc x ↦{fullShare} fx) ∗ ((d : Thread nD τ).loc y ↦{fullShare} fy)
        ∗ (iprop(boundary (d : Thread nD τ) ∗ ((d : Thread nD τ).loc x ↦{fullShare} fx)
          ∗ ((d : Thread nD τ).loc y ↦{fullShare} (fun i => he ▸ shapeCast y.ty.shape fx hn i : y.ty.Contents (Elt F)))) -∗ Q ⟨⟩))
      ⊢ wp frame (wpE (DD (F := F)) 𝒱 (d : Thread nD τ) none) Set.univ (hlo rfl (StableHlo.reshape x y he hn hx hy) (fun _ => .ret ⟨⟩)) Q :=
  wp_op2 m d hxy _ rfl rfl rfl (fun fx => (fun i => he ▸ shapeCast y.ty.shape fx hn i : y.ty.Contents (Elt F))) (fun V => StableHlo.reshape_result' ..) fx fy Q

/-- The reshape of the big array to batches of positions, and its copy into the result's array. -/
theorem op_batches (d : Dev nD) (f : Buf (Elt F) ((d : Thread nD τ).loc main_v5)) (hx hy) (Q : PUnit → sProp 𝕄) :
    iprop(boundary (d : Thread nD τ) ∗ (oLoc d ↦{fullShare} filled m d) ∗ ((d : Thread nD τ).loc main_v5 ↦{fullShare} f)
        ∗ (iprop(boundary (d : Thread nD τ) ∗ (oLoc d ↦{fullShare} filled m d) ∗ ((d : Thread nD τ).loc main_v5 ↦{fullShare} filled3 m d)) -∗ Q ⟨⟩))
      ⊢ wp frame (wpE (DD (F := F)) 𝒱 (d : Thread nD τ) none) Set.univ
          (hlo rfl (StableHlo.reshape main_v4 main_v5 (rfl : (.f32 : EltTy) = .f32) shapeCasts_S65536x1024_S16x4096x1024 hx hy) (fun _ => .ret ⟨⟩)) Q :=
  wp_op2 m d (x := main_v4) (y := main_v5) (by decide) _ rfl rfl rfl
    (fun f => shapeCast S16x4096x1024 (f : S65536x1024.Idx → Elt F .f32) shapeCasts_S65536x1024_S16x4096x1024)
    (fun V => (StableHlo.reshape_result' ..).trans rfl) (filled m d) f Q
/-- The host's copy of the filled array into the TensorCore call's output. -/
theorem op_copy (d : Dev nD) (f : Buf (Elt F) ((d : Thread nD τ).loc main_v6)) (hx hy) (Q : PUnit → sProp 𝕄) :
    iprop(boundary (d : Thread nD τ) ∗ ((d : Thread nD τ).loc main_v5 ↦{fullShare} filled3 m d) ∗ ((d : Thread nD τ).loc main_v6 ↦{fullShare} f)
        ∗ (iprop(boundary (d : Thread nD τ) ∗ ((d : Thread nD τ).loc main_v5 ↦{fullShare} filled3 m d)
          ∗ ((d : Thread nD τ).loc main_v6 ↦{fullShare} (filled3 m d : S16x4096x1024.Idx → Elt F .f32))) -∗ Q ⟨⟩))
      ⊢ wp frame (wpE (DD (F := F)) 𝒱 (d : Thread nD τ) none) Set.univ (hlo rfl (StableHlo.unary main_v5 main_v6 id hx hy) (fun _ => .ret ⟨⟩)) Q :=
  wp_op2 m d (x := main_v5) (y := main_v6) (by decide) _ rfl rfl rfl (fun f => f) (fun V => (StableHlo.unary_result' ..).trans rfl) (filled3 m d) f Q

/-- `@main` on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G m d)
      ⊢ wp frame (wpE (DD (F := F)) 𝒱 (SparseCore.T d) none) Set.univ (main d)
          fun _ => iprop((K (F := F)).tcSt EH d 1 ∗ FIN m d ∗ (K (F := F)).tcEnd d) := by
  obtain rfl : d = 0 := Subsingleton.elim _ _
  unfold SparseCore.Cfg.tcRes SparseCore.Cfg.tcEnd
  rw [unscopedBufs_eq]
  simp only [main, fn_atleast_1d.body, wp_bind, wp_pure]
  iintro ⟨#Hctx, Hst, ⟨Hb, ⟨Hx, Ht, Hk, H0, H1, H2, H3, H4, H5, H6⟩, Hts, -⟩, HG⟩
  iapply (op_unary m 0 (x := main_arg2) (y := main_v0) (by decide) (broadcastInDim S1 ![] bcast_S_S1) _ _ _ _ _)
  isplitl [Hb]; · iexact Hb
  isplitl [Hk]; · iexact Hk
  isplitl [H0]; · iexact H0
  iintro ⟨Hb, Hk, H0⟩
  imodintro
  iapply (op_reshape m 0 (x := main_arg1) (y := main_v1) (by decide) _ _ _ _ _ _ _)
  isplitl [Hb]; · iexact Hb
  isplitl [Ht]; · iexact Ht
  isplitl [H1]; · iexact H1
  iintro ⟨Hb, Ht, H1⟩
  iapply (op_unary m 0 (x := main_arg1) (y := main_v2) (by decide) _ _ _ _ _ _)
  isplitl [Hb]; · iexact Hb
  isplitl [Ht]; · iexact Ht
  isplitl [H2]; · iexact H2
  iintro ⟨Hb, Ht, H2⟩
  iapply (op_unary m 0 (x := main_v2) (y := main_v3) (by decide) _ _ _ _ _ _)
  isplitl [Hb]; · iexact Hb
  isplitl [H2]; · iexact H2
  isplitl [H3]; · iexact H3
  iintro ⟨Hb, H2, H3⟩
  -- the SparseCore call
  ihave H4 := (Entails.of_eq (o_split (F := F) 0 (m (oLoc 0)))) $$ H4
  ihave H3 := (Entails.of_eq (congrArg (fun f => (pLoc 0 ↦{fullShare} f : sProp 𝕄)) (pat_eq m 0).symm)) $$ H3
  ihave H3 := (Entails.of_eq ((toks_fin (F := F) Finset.univ (pat m 0) fullShare 2).trans (congrArg (fun Z => iprop(_ ∗ Z)) (bigSep_two (F := F) _)))) $$ H3
  icases H3 with ⟨-, Ha, Hc⟩
  icases H4 with ⟨Oa, Oc, Or⟩
  iapply ((K (F := F)).wp_run (D (F := F)) 𝒱 (EH := EH) (P := P m) κ 0 0) $$ [Hst Ha Hc Oa Oc Or Hb Hts Hx Ht Hk H0 H1 H5 H6 HG]
  isplitr; · iexact Hctx
  isplitl [Hst]; · iexact Hst
  isplitl [Ha Hc Oa Oc]
  · rw [st0_eq]
    isplitl [Ha Oa]
    · isplitl [Ha]; · iexact Ha
      iexact Oa
    · isplitl [Hc]; · iexact Hc
      iexact Oc
  iintro ⟨Hst, Hdn⟩
  ihave Hdn' := (Entails.of_eq (dn0_eq m 0)) $$ Hdn
  icases Hdn' with ⟨⟨-, Oa⟩, -, Oc⟩
  ihave H4 := (o_join m 0) $$ [Oa Oc Or]
  · isplitl [Oa]; · iexact Oa
    isplitl [Oc]; · iexact Oc
    iexact Or
  -- the reshape and the copy
  iapply (op_batches m 0 _ _ _ _)
  isplitl [Hb]; · iexact Hb
  isplitl [H4]; · iexact H4
  isplitl [H5]; · iexact H5
  iintro ⟨Hb, -, H5⟩
  iapply (op_copy m 0 _ _ _ _)
  isplitl [Hb]; · iexact Hb
  isplitl [H5]; · iexact H5
  isplitl [H6]; · iexact H6
  iintro ⟨Hb, -, H6⟩
  -- the block kernel's region
  unfold SparseCore.Cfg.tcSt
  icases Hst with ⟨⟨%W, %hW, HO⟩, Hst⟩
  ihave HL := ((K (F := F)).ctx_levAts κ) $$ Hctx
  iapply (wp_region m 0 _)
  isplitl [Hst Ht Hk Hts]
  · iintro ⟨Hb, -, Hx, -, H6, %W', %hW', HO⟩
    imodintro
    isplitl [HO Hst]
    · isplitl [HO]
      · iexists W'
        isplitr
        · ipureintro; exact hW'
        · iapply (Entails.of_eq (congrArg (fun O => (owes (SparseCore.T 0) O W' : sProp 𝕄)) ((K (F := F)).Otc_end 0 (le_refl 1)).symm))
          iexact HO
      iexact Hst
    isplitl [Hx Ht Hk H6]
    · isplitl [Hx]; · iexact Hx
      isplitl [Ht]; · iexact Ht
      isplitl [Hk]; · iexact Hk
      iexact H6
    isplitl [Hb] <;> iassumption
  isplitl [Hb]; · iexact Hb
  isplitl [Hx H0 H1 H6 HO]
  · isplitl [H0]; · iexact H0
    isplitl [Hx]; · iexact Hx
    isplitl [H1]; · iexact H1
    isplitl [H6]; · iexact H6
    iexists W
    isplitr
    · ipureintro; exact hW
    · iapply (Entails.of_eq (congrArg (fun O => (owes (SparseCore.T 0) O W : sProp 𝕄)) ((K (F := F)).Otc_end 0 (le_refl 1))))
      iexact HO
  isplitl [HL]; · iexact HL
  iexact HG

/-! ## The launch element, the final state, the run -/

/-- The launch's ghost state: the handshakes' rounds and the block pipeline's. -/
def u₀ : UU := (initOf (K (F := F)).hsCells (K (F := F)).hsToks,
  (initOf (Pipeline.cells (Pipeline.pin (pcfgs (F := F)) (adm (tkOf m))) (cellOf_inj _)) (Pipeline.launchToks (Pipeline.pin (pcfgs (F := F)) (adm (tkOf m))) (cellOf_inj _)), 1))

omit [FloatOps F] in
theorem bigSep_emp₀ {I : Type} (s : Finset I) : (bigSep s fun _ => iprop(emp)) = (iprop(emp) : sProp 𝕄) := bigSep_emp_const s

/-- The launch's tokens for the TensorCore call, dealt to the devices. -/
theorem deal : (iprop((bigSep Finset.univ fun c : Dev nD => bigSep Finset.univ fun p : Fin 1 => Pipeline.cellsGhost (Pipeline.pin (pcfgs (F := F)) (adm (tkOf m))) EP p c)
      ∗ (bigSep Finset.univ fun c : Dev nD => bigSep Finset.univ fun p : Fin 1 => Pipeline.toksInit (Pipeline.pin (pcfgs (F := F)) (adm (tkOf m))) EP p c)) : sProp 𝕄)
    ⊢ bigSep Finset.univ fun d : Dev nD => G m d := by
  rw [bigSep_sep',
    show (bigSep Finset.univ fun c : Dev nD => bigSep Finset.univ fun p : Fin 1 => (Pipeline.cellsGhost (Pipeline.pin (pcfgs (F := F)) (adm (tkOf m))) EP p c : sProp 𝕄))
      = bigSep Finset.univ fun c : Dev nD => Pipeline.cellsGhost (Pipeline.pin (pcfgs (F := F)) (adm (tkOf m))) EP 0 c from
      bigSep_congr fun _ _ => bigSep_univ_of_subsingleton (0 : Fin 1),
    show (bigSep Finset.univ fun c : Dev nD => bigSep Finset.univ fun p : Fin 1 => (Pipeline.toksInit (Pipeline.pin (pcfgs (F := F)) (adm (tkOf m))) EP p c : sProp 𝕄))
      = bigSep Finset.univ fun c : Dev nD => Pipeline.toksInit (Pipeline.pin (pcfgs (F := F)) (adm (tkOf m))) EP 0 c from
      bigSep_congr fun _ _ => bigSep_univ_of_subsingleton (0 : Fin 1)]

/-- The launch's tokens, from the initial ghost state. -/
theorem hu₀ : (ownU (u₀ m) : sProp 𝕄)
    ⊢ |={Set.univ}=> iprop(BI.own (EH (initOf (K (F := F)).hsCells (K (F := F)).hsToks)) ∗ (bigSep Finset.univ fun d : Dev nD => G m d)
        ∗ bigSep Finset.univ fun thr : Thread nD τ => bigSep Finset.univ fun q : Fin 1 => (P m).x q thr) := by
  unfold u₀
  iintro Hu
  ihave H := (ownU_pair _ _) $$ Hu
  icases H with ⟨HH, HP⟩
  ihave H := (own_pair_emb embR _ _) $$ HP
  icases H with ⟨HP, -⟩
  ihave H := (Pipeline.fund_ghost (Pipeline.pin (pcfgs (F := F)) (adm (tkOf m))) EP (cellOf_inj _)) $$ HP
  imod H
  imodintro
  icases H with ⟨Hc, Ht⟩
  isplitl [HH]; · iexact HH
  isplitl [Hc Ht]
  · iapply (deal m)
    isplitl [Hc] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp₀]
  iempintro

/-- What the claims read of the final state on device `d`. -/
def fq (d : Dev nD) (s' : Phys nD τ sig (Elt F)) : Prop :=
  s'.mem.mem (xLoc d) = m (xLoc d) ∧ s'.mem.mem (tLoc d) = m (tLoc d) ∧ s'.mem.mem (kLoc d) = m (kLoc d)
    ∧ s'.mem.mem ((d : Thread nD τ).loc main_v6) = res m d

omit [FloatOps F] in
theorem read_all {ℓ : Loc nD τ sig} {f : Buf (Elt F) ℓ} {s' : Phys nD τ sig (Elt F)} :
    (iprop(SI s' ∗ (ℓ ↦{fullShare} f)) : sProp 𝕄) ⊢ iprop(⌜s'.mem.mem ℓ = f⌝ ∗ SI s') := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

/-- What a device holds at the end says what its memory then contains. -/
theorem hfin (d : Dev nD) (s' : Phys nD τ sig (Elt F)) : iprop(FIN m d ∗ SI s') ⊢ (⌜fq m d s'⌝ : sProp 𝕄) := by
  iintro ⟨⟨Hx, Ht, Hk, Ho⟩, HSI⟩
  ihave H := (read_all (F := F)) $$ [HSI Hx]
  · isplitl [HSI] <;> iassumption
  icases H with ⟨%h1, HSI⟩
  ihave H := (read_all (F := F)) $$ [HSI Ht]
  · isplitl [HSI] <;> iassumption
  icases H with ⟨%h2, HSI⟩
  ihave H := (read_all (F := F)) $$ [HSI Hk]
  · isplitl [HSI] <;> iassumption
  icases H with ⟨%h3, HSI⟩
  ihave H := (read_all (F := F)) $$ [HSI Ho]
  · isplitl [HSI] <;> iassumption
  icases H with ⟨%h4, -⟩
  ipureintro; exact ⟨h1, h2, h3, h4⟩

/-- The program runs from every launch memory and ends with its arguments as launched, its result `res` and every
    semaphore at zero. -/
theorem run_main [∀ e, Nonempty (Elt F e)] :
    θ_run (Cert.KernelIdeal.defs (F := F)) (Cert.KernelIdeal.threads (F := F)) ⟨m, fun _ => 0, ρ⟩ (fun r =>
      (∀ c : Dev nD, r.2.mem (xLoc c) = m (xLoc c) ∧ r.2.mem (tLoc c) = m (tLoc c) ∧ r.2.mem (kLoc c) = m (kLoc c)
        ∧ r.2.mem ((c : Thread nD τ).loc main_v6) = res m c) ∧ r.2.sem = fun _ => 0) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m scFacts)
    (fun q _ => match q with | 0 => SparseCore.Cfg.VecSplit.of_plain (vecSplit m))
    m ρ main (G m) (FIN m) (u₀ m) (sep_elim_left.trans (hu₀ m)) (hmain m ρ) (fq m) (hfin m) _ (fun _ h hz => ⟨h, hz⟩)

end Cert.Proof.KernelIdeal

end
-- ==== Proof.KernelIdeal.Result.lean ====
/-
  The whole program's result, element by element: where at most 1024 positions are kept, the mask token from the kept
  positions on and `x` before them.
-/
module

public import proofs.«01_k».proof.Proof.KernelIdeal.Main

@[expose] public section

noncomputable section

namespace Cert.Proof.KernelIdeal

open Cert.KernelIdeal Cert.KernelIdeal.Gen
open Idealize.ShloMosaic Idealize.ShloMosaic.TcCoe

variable {F : FTy → Type} [FloatOps F]
variable (m : (ℓ : Loc nD τ sig) → Buf (Elt F) ℓ)

/-- The only index of a scalar. -/
abbrev i₀ : S_.Idx := fun a => a.elim0

/-- Positions from 1024 on are not kept when at most 1024 are. -/
theorem sge_of_sle {k : BitVec 32} (hk : IntOp.cmpi .sle k 1024#32 = 1#1) {n : ℕ} (hn : 1024 ≤ n) (hn' : n < 4096) :
    IntOp.cmpi .sge (BitVec.ofNat 32 n) k = 1#1 := by
  have h1 : k.sle 1024#32 = true := by
    cases h : k.sle 1024#32
    · simp [IntOp.cmpi, h] at hk
    · rfl
  have h2 : k.sle (BitVec.ofNat 32 n) = true := by
    rw [BitVec.sle_iff_toInt_le] at h1 ⊢
    have e1 : (1024#32 : BitVec 32).toInt = 1024 := by decide
    have e2 : (BitVec.ofNat 32 n).toInt = n := by
      have e : (BitVec.ofNat 32 n).toNat = n := by rw [BitVec.toNat_ofNat]; omega
      rw [BitVec.toInt_eq_toNat_of_lt (by rw [e]; omega), e]
    omega
  simp [IntOp.cmpi, h2]

omit [FloatOps F] in
theorem tkOf_apply (d : Dev nD) : tkOf m k0 = (m (kLoc d) : S_.Idx → Elt F .i32) i₀ := by
  obtain rfl : d = 0 := Subsingleton.elim _ _
  unfold tkOf broadcastInDim
  exact congrArg (m (kLoc 0) : S_.Idx → Elt F .i32) (funext fun a => a.elim0)

omit [FloatOps F] in
theorem tokRow_apply (d : Dev nD) (n : Fin 1024) : (tokRow m d : S1x1024.Idx → Elt F .f32) (ix2 n) = (m (tLoc d) : S1024.Idx → Elt F .f32) (Proof.KernelIdeal.ix1 n) := by
  refine shapeCast_apply (s := S1024) (t := S1x1024) _ _ _ _ ?_
  rw [Shape.rowMajor_val_one, Shape.rowMajor_val_two]
  show n.val = 0 * 1024 + n.val
  omega

/-- A position past the first 1024 of its batch holds the mask token. -/
theorem filled3_apply (d : Dev nD) (i : S16x4096x1024.Idx) (h : 1024 ≤ (i 1).val) :
    (filled3 m d : S16x4096x1024.Idx → Elt F .f32) i = (m (tLoc d) : S1024.Idx → Elt F .f32) (Proof.KernelIdeal.ix1 (i 2)) := by
  have h0 : (i 0).val < 16 := (i 0).isLt
  have h1 : (i 1).val < 4096 := (i 1).isLt
  let j : S65536x1024.Idx := fun | 0 => ⟨4096 * (i 0).val + (i 1).val, by show _ < 65536; omega⟩ | 1 => i 2
  have hj : (filled3 m d : S16x4096x1024.Idx → Elt F .f32) i = (filled m d : S65536x1024.Idx → Elt F .f32) j := by
    refine shapeCast_apply (s := S65536x1024) (t := S16x4096x1024) _ _ _ _ ?_
    rw [Shape.rowMajor_val_two, Shape.rowMajor_val_three]
    show (4096 * (i 0).val + (i 1).val) * 1024 + (i 2).val = ((i 0).val * 4096 + (i 1).val) * 1024 + (i 2).val
    omega
  rw [hj]
  have hm : j ∈ cSet 0 ∪ cSet 1 := by
    rw [Finset.mem_union, mem_cSet, mem_cSet]
    have e : (j 0).val = 4096 * (i 0).val + (i 1).val := rfl
    rw [e]
    unfold lo
    by_cases hc : (i 1).val < 2560
    · exact Or.inl ⟨i 0, by omega, by omega⟩
    · exact Or.inr ⟨i 0, by omega, by omega⟩
  exact (Finset.piecewise_eq_of_mem _ _ _ hm).trans rfl

/-- The result when at most 1024 positions are kept. -/
theorem res_eq (d : Dev nD) (hk : IntOp.cmpi .sle ((m (kLoc d) : S_.Idx → Elt F .i32) i₀) 1024#32 = 1#1) :
    (res m d : S16x4096x1024.Idx → Elt F .f32) = fun i =>
      if IntOp.cmpi .sge (BitVec.ofNat 32 (i 1).val) ((m (kLoc d) : S_.Idx → Elt F .i32) i₀) = 1#1
      then (m (tLoc d) : S1024.Idx → Elt F .f32) (Proof.KernelIdeal.ix1 (i 2)) else (m (xLoc d) : S16x4096x1024.Idx → Elt F .f32) i := by
  funext i
  have h1 : (i 1).val < 4096 := (i 1).isLt
  show (if (i 1).val / 1024 = 0 then wr (tkOf m k0) (m (xLoc d)) (tokRow m d) i else (filled3 m d : S16x4096x1024.Idx → Elt F .f32) i) = _
  by_cases h : (i 1).val / 1024 = 0
  · rw [if_pos h, wr, tkOf_apply m d]
    exact if_congr Iff.rfl (tokRow_apply m d (i 2)) rfl
  · rw [if_neg h, filled3_apply m d i (by omega), if_pos (sge_of_sle hk (by omega) h1)]

end Cert.Proof.KernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_keep_in_range
public import proofs.«01_k».proof.Proof.Kernel.Main
public import proofs.«01_k».proof.Proof.KernelIdeal.Result
public import Idealize.ShloMosaic.Lib.Quiescent
public import Idealize.ShloMosaic.Adequacy
public import Idealize.ShloMosaic.Init

@[expose] public section

noncomputable section

namespace Cert.Proof

open Idealize.ShloMosaic Idealize.SL.Sem

/-! ## The frames: each program runs, its arguments end as launched, every counter ends at zero -/

/-- The kernel's frame, at bits. -/
theorem frame_kernel : Cert.quiescent_Kernel (hKernel := Cert.Kernel.Gen.facts) := fun m g _ =>
  (θ_run _ _ _).mono (fun _ h => ⟨fun c => ⟨(h.1 c).1, (h.1 c).2.1, (h.1 c).2.2.1⟩, h.2⟩) (Cert.Proof.Kernel.run_main m g)

/-- The idealized kernel's frame. -/
theorem frame_ideal : Cert.quiescent_KernelIdeal (hKernelIdeal := Cert.KernelIdeal.Gen.facts) := fun m g _ =>
  (θ_run _ _ _).mono (fun _ h => ⟨fun c => ⟨(h.1 c).1, (h.1 c).2.1, (h.1 c).2.2.1⟩, h.2⟩) (Cert.Proof.KernelIdeal.run_main m g)

/-- The reference's frame: it declares no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-! ## The value claim -/

/-- The precondition at a device: its `keep_k` is at most 1024. -/
theorem keep_le (m : (ℓ : Loc Cert.KernelIdeal.nD Cert.KernelIdeal.τ Cert.KernelIdeal.sig) → Buf (Elt Ideal) ℓ)
    (h : Cert.Pre_KernelIdeal_keep_in_range (hPre_keep_in_range := Cert.Pre_keep_in_range.Gen.facts) m) (c : Dev Cert.KernelIdeal.nD) :
    IntOp.cmpi .sle ((m (KernelIdeal.kLoc c) : Cert.KernelIdeal.S_.Idx → Elt Ideal .i32) KernelIdeal.i₀) 1024#32 = 1#1 :=
  congrFun (h c) KernelIdeal.i₀

/-- The reference's term at an index. -/
theorem reference_apply (x : Cert.ReferenceIdeal.S16x4096x1024.Idx → Elt Ideal .f32) (t : Cert.ReferenceIdeal.S1024.Idx → Elt Ideal .f32)
    (k : Cert.ReferenceIdeal.S_.Idx → Elt Ideal .i32) :
    select (broadcastInDim Cert.ReferenceIdeal.S16x4096x1024 ![0, 1, 2] Cert.ReferenceIdeal.Gen.facts.bcast_S1x4096x1_S16x4096x1024_0_1_2
        (broadcastInDim Cert.ReferenceIdeal.S1x4096x1 ![1] Cert.ReferenceIdeal.Gen.facts.bcast_S4096_S1x4096x1_1
          (cmpi .sge (iotaInDim Cert.ReferenceIdeal.S4096 32 0) (broadcastInDim Cert.ReferenceIdeal.S4096 ![] Cert.ReferenceIdeal.Gen.facts.bcast_S_S4096 k))))
      (broadcastInDim Cert.ReferenceIdeal.S16x4096x1024 ![0, 1, 2] Cert.ReferenceIdeal.Gen.facts.bcast_S1x1x1024_S16x4096x1024_0_1_2
        (broadcastInDim Cert.ReferenceIdeal.S1x1x1024 ![2] Cert.ReferenceIdeal.Gen.facts.bcast_S1024_S1x1x1024_2 t)) x
      = fun i => if IntOp.cmpi .sge (BitVec.ofNat 32 (i 1).val) (k KernelIdeal.i₀) = 1#1 then t (KernelIdeal.ix1 (i 2)) else x i := by
  funext i
  simp only [select, Scalar.select, broadcastInDim, cmpi, iotaInDim]
  refine if_congr (Eq.congr (congrArg₂ _ rfl (congrArg k (funext fun a => a.elim0))) rfl) (congrArg t (funext fun a => ?_)) rfl
  match a with
  | ⟨0, _⟩ => rfl

/-- The idealized kernel computes the reference's result where at most 1024 positions are kept. -/
theorem value : Cert.algebraic_KernelIdeal_ReferenceIdeal_pre_keep_in_range (hKernelIdeal := Cert.KernelIdeal.Gen.facts)
    (hReferenceIdeal := Cert.ReferenceIdeal.Gen.facts) (hPre_keep_in_range := Cert.Pre_keep_in_range.Gen.facts) := by
  intro m g m' g' hpre hagree
  refine ⟨fun c => KernelIdeal.res m c,
    (θ_run _ _ _).mono (fun _ h c => ⟨(h.1 c).2.2.2, (h.1 c).1, (h.1 c).2.1, (h.1 c).2.2.1⟩) (Cert.Proof.KernelIdeal.run_main m g),
    (θ_run _ _ _).mono (fun _ h c => ⟨(h c).1.trans ?_, (h c).2⟩) (Cert.ReferenceIdeal.Value.run (F := Ideal) m' g')⟩
  obtain ⟨h0, h1, h2⟩ := hagree c
  rw [h0, h1, h2]
  exact (reference_apply _ _ _).trans (KernelIdeal.res_eq m c (keep_le m hpre c)).symm

/-- Every claim of the certificate. -/
theorem claim : Cert.Claim :=
  ⟨Cert.Kernel.Gen.facts, Cert.KernelIdeal.Gen.facts, Cert.ReferenceIdeal.Gen.facts, Cert.Pre_keep_in_range.Gen.facts,
    frame_kernel, frame_ideal, fun m g _ => frame_ideal m g trivial, frame_reference, fun m g _ => frame_reference m g trivial, trivial, value⟩

end Cert.Proof

end
